-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_neighbours [hPre_distinct_neighbours : Cert.Pre_distinct_neighbours.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_neighbours [hPre_distinct_neighbours : Cert.Pre_distinct_neighbours.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_distinct_neighbours [hKernelIdeal : Cert.KernelIdeal.Facts] [hPre_distinct_neighbours : Cert.Pre_distinct_neighbours.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_neighbours m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_distinct_neighbours [hReferenceIdeal : Cert.ReferenceIdeal.Facts] [hPre_distinct_neighbours : Cert.Pre_distinct_neighbours.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_neighbours m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_distinct_neighbours [hKernelIdeal : Cert.KernelIdeal.Facts] [hReferenceIdeal : Cert.ReferenceIdeal.Facts] [hPre_distinct_neighbours : Cert.Pre_distinct_neighbours.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_neighbours m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_distinct_neighbours : Cert.Pre_distinct_neighbours.Facts),
    quiescent_Kernel (hKernel := hKernel)
    ∧ quiescent_KernelIdeal (hKernelIdeal := hKernelIdeal)
    ∧ quiescent_KernelIdeal_pre_distinct_neighbours (hKernelIdeal := hKernelIdeal) (hPre_distinct_neighbours := hPre_distinct_neighbours)
    ∧ quiescent_ReferenceIdeal (hReferenceIdeal := hReferenceIdeal)
    ∧ quiescent_ReferenceIdeal_pre_distinct_neighbours (hReferenceIdeal := hReferenceIdeal) (hPre_distinct_neighbours := hPre_distinct_neighbours)
    ∧ preserves_Kernel_KernelIdeal
    ∧ algebraic_KernelIdeal_ReferenceIdeal_pre_distinct_neighbours (hKernelIdeal := hKernelIdeal) (hReferenceIdeal := hReferenceIdeal) (hPre_distinct_neighbours := hPre_distinct_neighbours)
-- ==== Pre_distinct_neighbours.lean ====
abbrev S2x64x64x64 : Shape := ⟨4, ![2, 64, 64, 64]⟩
abbrev S64x64 : Shape := ⟨2, ![64, 64]⟩
abbrev S64 : Shape := ⟨1, ![64]⟩
abbrev S8192x64 : Shape := ⟨2, ![8192, 64]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S8192x10 : Shape := ⟨2, ![8192, 10]⟩
abbrev S8191x8 : Shape := ⟨2, ![8191, 8]⟩
abbrev S4095x1 : Shape := ⟨2, ![4095, 1]⟩
abbrev S4095 : Shape := ⟨1, ![4095]⟩

class Facts : Prop where
  transposes_S2x64x64x64_S2x64x64x64_0_2_3_1 : S2x64x64x64.Transposes [0, 2, 3, 1] S2x64x64x64
  shapeCasts_S2x64x64x64_S8192x64 : S2x64x64x64.ShapeCasts S8192x64
  bcast_S_S8191 : S_.BroadcastsInDim S8191 (![] : Fin 0 → Fin S8191.rank)
  shapeCasts_S_S1 : S_.ShapeCasts S1
  bcast_S1_S8191_0 : S1.BroadcastsInDim S8191 (![0] : Fin 1 → Fin S8191.rank)
  bcast_S_S1 : S_.BroadcastsInDim S1 (![] : Fin 0 → Fin S1.rank)
  concatenates_S8191_S1_S8192_d0 : Shape.Concatenates [S8191, S1] S8192 0
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  sliceFits_S8192x8192_S8192x10 : S8192x8192.Slices (fun _ => 0) S8192x10
  slices_S8192x10_S8191x8_0_1 : S8192x10.Slices ![0, 1] S8191x8
  slices_S8192x10_S8191x8_0_2 : S8192x10.Slices ![0, 2] S8191x8
  reducesTo_S8191x8_S_d0_1 : S8191x8.ReducesTo [0, 1] S_
  slices_S8192x10_S4095x1_4096_8 : S8192x10.Slices ![4096, 8] S4095x1
  shapeCasts_S4095x1_S4095 : S4095x1.ShapeCasts S4095
  bcast_S_S4095 : S_.BroadcastsInDim S4095 (![] : Fin 0 → Fin S4095.rank)
  reducesTo_S4095_S_d0 : S4095.ReducesTo [0] S_
  dot_S8192x64_S64x8192_S8192x8192_1_0_0_1_n_n_wf : DotDims.WF S8192x64 S64x8192 S8192x8192 [1] [0] [0] [1] [] []

variable [Facts]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def fn_linspace {F : FTy → Type} [FloatOps F] (arg0 : FVec F S_ .f32) (arg1 : FVec F S_ .f32) : FVec F S8192 .f32 :=
  let v0 : FVec F S_ .f32 := id arg0
  let v1 : FVec F S_ .f32 := id arg1
  let v2 : FVec F S_ .f32 := subf v1 v0
  let cst : FVec F S_ .f32 := constant S_ .f32 0x45FFF800#32
  let v3 : FVec F S_ .f32 := Host.divf v2 cst
  let v4 : FVec F S8191 .f32 := sitofp .f32 (iotaInDim S8191 32 0)
  let cst_0 : FVec F S_ .f32 := constant S_ .f32 0x45FFF800#32
  let v5 : FVec F S8191 .f32 := broadcastInDim S8191 ![] bcast_S_S8191 cst_0
  let v6 : FVec F S8191 .f32 := Host.divf v4 v5
  let v7 : FVec F S1 .f32 := shapeCast S1 v0 shapeCasts_S_S1
  let cst_1 : FVec F S_ .f32 := constant S_ .f32 0x3F800000#32
  let v8 : FVec F S8191 .f32 := broadcastInDim S8191 ![] bcast_S_S8191 cst_1
  let v9 : FVec F S8191 .f32 := subf v8 v6
  let v10 : FVec F S8191 .f32 := broadcastInDim S8191 ![0] bcast_S1_S8191_0 v7
  let v11 : FVec F S8191 .f32 := mulf v10 v9
  let v12 : FVec F S1 .f32 := shapeCast S1 v1 shapeCasts_S_S1
  let v13 : FVec F S8191 .f32 := broadcastInDim S8191 ![0] bcast_S1_S8191_0 v12
  let v14 : FVec F S8191 .f32 := mulf v13 v6
  let v15 : FVec F S8191 .f32 := addf v11 v14
  let v16 : FVec F S1 .f32 := broadcastInDim S1 ![] bcast_S_S1 v1
  let v17 : FVec F S8192 .f32 := (fun a b => concatenate S8192 0 [⟨S8191, a⟩, ⟨S1, b⟩] concatenates_S8191_S1_S8192_d0) v15 v16
  v17

def fn_where {F : FTy → Type} [FloatOps F] (arg0 : IVec S8192x8192 1) (arg1 : FVec F S8192x8192 .f32) (arg2 : FVec F S_ .f32) : FVec F S8192x8192 .f32 :=
  let v0 : FVec F S_ .f32 := id arg2
  let v1 : FVec F S8192x8192 .f32 := broadcastInDim S8192x8192 ![] bcast_S_S8192x8192 v0
  let v2 : FVec F S8192x8192 .f32 := select arg0 arg1 v1
  v2

def fn_part1 {F : FTy → Type} [FloatOps F] (main_v16 : FVec F S8192x8192 .f32) (main_v18 : IVec S1x8192 32) (main_v19 : IVec S8192x8192 32) : IVec S_ 1 :=
  let main_v20 : IVec S8192x8192 32 := broadcastInDim S8192x8192 ![0, 1] bcast_S1x8192_S8192x8192_0_1 main_v18
  let main_v21 : IVec S8192x8192 1 := cmpi .eq main_v19 main_v20
  let main_cst_3 : FVec F S_ .f32 := constant S_ .f32 0x7F800000#32
  let main_v22 : FVec F S8192x8192 .f32 := fn_where (F := F) main_v21 main_v16 main_cst_3
  let main_v23 : FVec F S8192x8192 .f32 := Host.negf main_v22
  let main_values : FVec F S8192x10 .f32 := (fun x => (Host.topK S8192x10 1 (FloatOps.cmpfTotal .gt) x sliceFits_S8192x8192_S8192x10).1) main_v23
  let main_indices : IVec S8192x10 32 := (fun x => (Host.topK S8192x10 1 (FloatOps.cmpfTotal .gt) x sliceFits_S8192x8192_S8192x10).2) main_v23
  let main_v24 : FVec F S8191x8 .f32 := (extractStridedSlice S8191x8 ![0, 1] · slices_S8192x10_S8191x8_0_1) main_values
  let main_v25 : FVec F S8191x8 .f32 := (extractStridedSlice S8191x8 ![0, 2] · slices_S8192x10_S8191x8_0_2) main_values
  let main_v26 : IVec S8191x8 1 := cmpf .ogt main_v24 main_v25
  let main_c : IVec S_ 1 := constantI S_ 1 1#1
  let main_v27 : IVec S_ 1 := (fun x v => Host.reduce IntOp.andi x v reducesTo_S8191x8_S_d0_1 h_S_) main_v26 main_c
  let main_v28 : FVec F S4095x1 .f32 := (extractStridedSlice S4095x1 ![4096, 8] · slices_S8192x10_S4095x1_4096_8) main_values
  let main_v29 : FVec F S4095 .f32 := shapeCast S4095 main_v28 shapeCasts_S4095x1_S4095
  let main_cst_4 : FVec F S_ .f32 := constant S_ .f32 0xFF7FFFFF#32
  let main_v30 : FVec F S4095 .f32 := broadcastInDim S4095 ![] bcast_S_S4095 main_cst_4
  let main_v31 : IVec S4095 1 := cmpf .ogt main_v29 main_v30
  let main_c_5 : IVec S_ 1 := constantI S_ 1 1#1
  let main_v32 : IVec S_ 1 := (fun x v => Host.reduce IntOp.andi x v reducesTo_S4095_S_d0 h_S_) main_v31 main_c_5
  let main_v33 : IVec S_ 1 := andi main_v27 main_v32
  main_v33

def fn {F : FTy → Type} [FloatOps F] (main_arg0 : FVec F S2x64x64x64 .f32) (main_arg1 : FVec F S64x64 .f32) (main_arg2 : FVec F S64x64 .f32) (main_arg3 : FVec F S64 .f32) : IVec S_ 1 :=
  let main_v0 : FVec F S2x64x64x64 .f32 := (transpose S2x64x64x64 [0, 2, 3, 1] · transposes_S2x64x64x64_S2x64x64x64_0_2_3_1) main_arg0
  let main_v1 : FVec F S8192x64 .f32 := shapeCast S8192x64 main_v0 shapeCasts_S2x64x64x64_S8192x64
  let main_cst : FVec F S_ .f32 := constant S_ .f32 0x00000000#32
  let main_cst_0 : FVec F S_ .f32 := constant S_ .f32 0x40000000#32
  let main_v2 : FVec F S8192 .f32 := fn_linspace (F := F) main_cst main_cst_0
  let main_v3 : FVec F S8192 .f32 := Host.floor main_v2
  let main_v4 : IVec S8192 32 := fptosi 32 main_v3
  let main_v5 : FVec F S8192x64 .f32 := mulf main_v1 main_v1
  let main_cst_1 : FVec F S_ .f32 := constant S_ .f32 0x00000000#32
  let main_v6 : FVec F S8192 .f32 := (fun x v => Host.reduceAdd x v reducesTo_S8192x64_S8192_d1 h_S_) main_v5 main_cst_1
  let main_v7 : FVec F S8192x1 .f32 := broadcastInDim S8192x1 ![0] bcast_S8192_S8192x1_0 main_v6
  let main_v8 : FVec F S1x8192 .f32 := broadcastInDim S1x8192 ![1] bcast_S8192_S1x8192_1 main_v6
  let main_v9 : FVec F S8192x8192 .f32 := broadcastInDim S8192x8192 ![0, 1] bcast_S8192x1_S8192x8192_0_1 main_v7
  let main_v10 : FVec F S8192x8192 .f32 := broadcastInDim S8192x8192 ![0, 1] bcast_S1x8192_S8192x8192_0_1 main_v8
  let main_v11 : FVec F S8192x8192 .f32 := addf main_v9 main_v10
  let main_v12 : FVec F S64x8192 .f32 := (transpose S64x8192 [1, 0] · transposes_S8192x64_S64x8192_1_0) main_v1
  let main_v13 : FVec F S8192x8192 .f32 := (fun l r => Host.dotGeneral dot_S8192x64_S64x8192_S8192x8192_1_0_0_1_n_n none l r) main_v1 main_v12
  let main_cst_2 : FVec F S_ .f32 := constant S_ .f32 0x40000000#32
  let main_v14 : FVec F S8192x8192 .f32 := broadcastInDim S8192x8192 ![] bcast_S_S8192x8192 main_cst_2
  let main_v15 : FVec F S8192x8192 .f32 := mulf main_v14 main_v13
  let main_v16 : FVec F S8192x8192 .f32 := subf main_v11 main_v15
  let main_v17 : IVec S8192x1 32 := broadcastInDim S8192x1 ![0] bcast_S8192_S8192x1_0 main_v4
  let main_v18 : IVec S1x8192 32 := broadcastInDim S1x8192 ![1] bcast_S8192_S1x8192_1 main_v4
  let main_v19 : IVec S8192x8192 32 := broadcastInDim S8192x8192 ![0, 1] bcast_S8192x1_S8192x8192_0_1 main_v17
  fn_part1 (F := F) main_v16 main_v18 main_v19
-- ==== Kernel.lean ====
abbrev S2x64x64x64 : Shape := ⟨4, ![2, 64, 64, 64]⟩
abbrev S64x64 : Shape := ⟨2, ![64, 64]⟩
abbrev S64 : Shape := ⟨1, ![64]⟩
abbrev S8192x64 : Shape := ⟨2, ![8192, 64]⟩
abbrev S_ : Shape := ⟨0, ![]⟩
abbrev S8191 : Shape := ⟨1, ![8191]⟩
abbrev S1 : Shape := ⟨1, ![1]⟩
abbrev S8192 : Shape := ⟨1, ![8192]⟩
abbrev S1x8192 : Shape := ⟨2, ![1, 8192]⟩
abbrev S8x64 : Shape := ⟨2, ![8, 64]⟩
abbrev S1x64 : Shape := ⟨2, ![1, 64]⟩
abbrev S1024x64 : Shape := ⟨2, ![1024, 64]⟩
abbrev S4096x64 : Shape := ⟨2, ![4096, 64]⟩
abbrev S1x4096 : Shape := ⟨2, ![1, 4096]⟩
abbrev S1024x4096 : Shape := ⟨2, ![1024, 4096]⟩
abbrev S1024 : Shape := ⟨1, ![1024]⟩
abbrev S1024x1 : Shape := ⟨2, ![1024, 1]⟩
abbrev S4096 : Shape := ⟨1, ![4096]⟩

abbrev nBuf : Space → Nat
  | .hbm => 34
  | .vmem => 12
  | .smem => 0
  | _ => 0

abbrev bufTy : (tb : Table) → Fin (tcTables nBuf tb) → BufTy
  | .hbm, ⟨0, _⟩ => ⟨S2x64x64x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S2x64x64x64, .f32⟩
  | .hbm, ⟨5, _⟩ => ⟨S8192x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8191, .f32⟩
  | .hbm, ⟨14, _⟩ => ⟨S_, .f32⟩
  | .hbm, ⟨15, _⟩ => ⟨S8191, .f32⟩
  | .hbm, ⟨16, _⟩ => ⟨S8191, .f32⟩
  | .hbm, ⟨17, _⟩ => ⟨S1, .f32⟩
  | .hbm, ⟨18, _⟩ => ⟨S_, .f32⟩
  | .hbm, ⟨19, _⟩ => ⟨S8191, .f32⟩
  | .hbm, ⟨20, _⟩ => ⟨S8191, .f32⟩
  | .hbm, ⟨21, _⟩ => ⟨S8191, .f32⟩
  | .hbm, ⟨22, _⟩ => ⟨S8191, .f32⟩
  | .hbm, ⟨23, _⟩ => ⟨S1, .f32⟩
  | .hbm, ⟨24, _⟩ => ⟨S8191, .f32⟩
  | .hbm, ⟨25, _⟩ => ⟨S8191, .f32⟩
  | .hbm, ⟨26, _⟩ => ⟨S8191, .f32⟩
  | .hbm, ⟨27, _⟩ => ⟨S1, .f32⟩
  | .hbm, ⟨28, _⟩ => ⟨S8192, .f32⟩
  | .hbm, ⟨29, _⟩ => ⟨S8192, .f32⟩
  | .hbm, ⟨30, _⟩ => ⟨S1x8192, .f32⟩
  | .hbm, ⟨31, _⟩ => ⟨S8x64, .f32⟩
  | .hbm, ⟨32, _⟩ => ⟨S1x64, .f32⟩
  | .hbm, ⟨33, _⟩ => ⟨S8192x64, .f32⟩
  | .local _ .vmem, ⟨0, _⟩ => ⟨S1024x64, .f32⟩
  | .local _ .vmem, ⟨1, _⟩ => ⟨S1024x64, .f32⟩
  | .local _ .vmem, ⟨2, _⟩ => ⟨S4096x64, .f32⟩
  | .local _ .vmem, ⟨3, _⟩ => ⟨S4096x64, .f32⟩
  | .local _ .vmem, ⟨4, _⟩ => ⟨S1x4096, .f32⟩
  | .local _ .vmem, ⟨5, _⟩ => ⟨S1x4096, .f32⟩
  | .local _ .vmem, ⟨6, _⟩ => ⟨S8x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S1024x64, .f32⟩
  | .local _ .vmem, ⟨11, _⟩ => ⟨S1024x64, .f32⟩
  | _, _ => ⟨S2x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x64x64x64 : Shape := ⟨4, ![2, 64, 64, 64]⟩
abbrev S64x64 : Shape := ⟨2, ![64, 64]⟩
abbrev S64 : Shape := ⟨1, ![64]⟩
abbrev S8192x64 : Shape := ⟨2, ![8192, 64]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S8192x9 : Shape := ⟨2, ![8192, 9]⟩
abbrev S73728 : Shape := ⟨1, ![73728]⟩
abbrev S73728x1 : Shape := ⟨2, ![73728, 1]⟩
abbrev S1x1 : Shape := ⟨2, ![1, 1]⟩
abbrev S73728x64 : Shape := ⟨2, ![73728, 64]⟩
abbrev S1x64 : Shape := ⟨2, ![1, 64]⟩

abbrev nBuf : Space → Nat
  | .hbm => 107
  | .vmem => 0
  | .smem => 0
  | _ => 0

abbrev bufTy : (tb : Table) → Fin (tcTables nBuf tb) → BufTy
  | .hbm, ⟨0, _⟩ => ⟨S2x64x64x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S2x64x64x64, .f32⟩
  | .hbm, ⟨5, _⟩ => ⟨S8192x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8191, .f32⟩
  | .hbm, ⟨14, _⟩ => ⟨S_, .f32⟩
  | .hbm, ⟨15, _⟩ => ⟨S8191, .f32⟩
  | .hbm, ⟨16, _⟩ => ⟨S8191, .f32⟩
  | .hbm, ⟨17, _⟩ => ⟨S1, .f32⟩
  | .hbm, ⟨18, _⟩ => ⟨S_, .f32⟩
  | .hbm, ⟨19, _⟩ => ⟨S8191, .f32⟩
  | .hbm, ⟨20, _⟩ => ⟨S8191, .f32⟩
  | .hbm, ⟨21, _⟩ => ⟨S8191, .f32⟩
  | .hbm, ⟨22, _⟩ => ⟨S8191, .f32⟩
  | .hbm, ⟨23, _⟩ => ⟨S1, .f32⟩
  | .hbm, ⟨24, _⟩ => ⟨S8191, .f32⟩
  | .hbm, ⟨25, _⟩ => ⟨S8191, .f32⟩
  | .hbm, ⟨26, _⟩ => ⟨S8191, .f32⟩
  | .hbm, ⟨27, _⟩ => ⟨S1, .f32⟩
  | .hbm, ⟨28, _⟩ => ⟨S8192, .f32⟩
  | .hbm, ⟨29, _⟩ => ⟨S8192, .f32⟩
  | .hbm, ⟨30, _⟩ => ⟨S8192, .i32⟩
  | .hbm, ⟨31, _⟩ => ⟨S8192x64, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S1x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S64x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x1, .i32⟩
  | .hbm, ⟨46, _⟩ => ⟨S1x8192, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S8192x9, .f32⟩
  | .hbm, ⟨56, _⟩ => ⟨S8192x9, .i32⟩
  | .hbm, ⟨57, _⟩ => ⟨S73728, .i32⟩
  | .hbm, ⟨58, _⟩ => ⟨S8192, .i32⟩
  | .hbm, ⟨59, _⟩ => ⟨S8192x9, .i32⟩
  | .hbm, ⟨60, _⟩ => ⟨S73728, .i32⟩
  | .hbm, ⟨61, _⟩ => ⟨S_, .i32⟩
  | .hbm, ⟨62, _⟩ => ⟨S73728, .i32⟩
  | .hbm, ⟨63, _⟩ => ⟨S73728, .i1⟩
  | .hbm, ⟨64, _⟩ => ⟨S_, .i32⟩
  | .hbm, ⟨65, _⟩ => ⟨S73728, .i32⟩
  | .hbm, ⟨66, _⟩ => ⟨S73728, .i32⟩
  | .hbm, ⟨67, _⟩ => ⟨S73728, .i32⟩
  | .hbm, ⟨68, _⟩ => ⟨S73728x1, .i32⟩
  | .hbm, ⟨69, _⟩ => ⟨S1, .i32⟩
  | .hbm, ⟨70, _⟩ => ⟨S_, .i32⟩
  | .hbm, ⟨71, _⟩ => ⟨S73728x1, .i32⟩
  | .hbm, ⟨72, _⟩ => ⟨S73728x1, .i1⟩
  | .hbm, ⟨73, _⟩ => ⟨S1x1, .i32⟩
  | .hbm, ⟨74, _⟩ => ⟨S73728x1, .i32⟩
  | .hbm, ⟨75, _⟩ => ⟨S73728x1, .i1⟩
  | .hbm, ⟨76, _⟩ => ⟨S73728x1, .i1⟩
  | .hbm, ⟨77, _⟩ => ⟨S_, .i1⟩
  | .hbm, ⟨78, _⟩ => ⟨S73728, .i1⟩
  | .hbm, ⟨79, _⟩ => ⟨S73728x64, .f32⟩
  | .hbm, ⟨80, _⟩ => ⟨S73728x64, .i1⟩
  | .hbm, ⟨81, _⟩ => ⟨S_, .f32⟩
  | .hbm, ⟨82, _⟩ => ⟨S73728x64, .f32⟩
  | .hbm, ⟨83, _⟩ => ⟨S73728x64, .f32⟩
  | .hbm, ⟨84, _⟩ => ⟨S_, .f32⟩
  | .hbm, ⟨85, _⟩ => ⟨S8192x64, .f32⟩
  | .hbm, ⟨86, _⟩ => ⟨S73728x1, .i32⟩
  | .hbm, ⟨87, _⟩ => ⟨S8192x64, .f32⟩
  | .hbm, ⟨88, _⟩ => ⟨S_, .f32⟩
  | .hbm, ⟨89, _⟩ => ⟨S73728, .f32⟩
  | .hbm, ⟨90, _⟩ => ⟨S_, .f32⟩
  | .hbm, ⟨91, _⟩ => ⟨S8192, .f32⟩
  | .hbm, ⟨92, _⟩ => ⟨S73728x1, .i32⟩
  | .hbm, ⟨93, _⟩ => ⟨S8192, .f32⟩
  | .hbm, ⟨94, _⟩ => ⟨S_, .f32⟩
  | .hbm, ⟨95, _⟩ => ⟨S_, .f32⟩
  | .hbm, ⟨96, _⟩ => ⟨S8192, .f32⟩
  | .hbm, ⟨97, _⟩ => ⟨S8192, .f32⟩
  | .hbm, ⟨98, _⟩ => ⟨S8192x1, .f32⟩
  | .hbm, ⟨99, _⟩ => ⟨S8192x64, .f32⟩
  | .hbm, ⟨100, _⟩ => ⟨S8192x64, .f32⟩
  | .hbm, ⟨101, _⟩ => ⟨S8192x64, .f32⟩
  | .hbm, ⟨102, _⟩ => ⟨S1x64, .f32⟩
  | .hbm, ⟨103, _⟩ => ⟨S8192x64, .f32⟩
  | .hbm, ⟨104, _⟩ => ⟨S8192x64, .f32⟩
  | .hbm, ⟨105, _⟩ => ⟨S8192x64, .f32⟩
  | .hbm, ⟨106, _⟩ => ⟨S8192x64, .f32⟩
  | _, _ => ⟨S2x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst_1 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_v22 : Ref sig .tc := ⟨.hbm, 53, rfl⟩
abbrev main_v23 : Ref sig .tc := ⟨.hbm, 54, rfl⟩
abbrev main_values : Ref sig .tc := ⟨.hbm, 55, rfl⟩
abbrev main_indices : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v28 : Ref sig .tc := ⟨.hbm, 83, rfl⟩
abbrev main_cst_4 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_5 : Ref sig .tc := ⟨.hbm, 88, rfl⟩
abbrev main_v32 : Ref sig .tc := ⟨.hbm, 89, rfl⟩
abbrev main_cst_6 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_cst_7 : Ref sig .tc := ⟨.hbm, 94, rfl⟩
abbrev main_call3_v0 : Ref sig .tc := ⟨.hbm, 95, rfl⟩
abbrev main_call3_v1 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩

abbrev nD : Nat := 1
abbrev τ : Topo := Topo.v7x

variable {F : FTy → Type} [FloatOps F]
-- ==== Proof.Batch.lean ====
/-
  The batch of a row, as both programs compute it from the row's number, and the constants that the programs spell as words,
  over the extended reals.
-/
module

public import Idealize.ShloMosaic.Lib.Pointwise

@[expose] public section

noncomputable section

namespace Cert.Batch

open Idealize.ShloMosaic

/-! ## Constants -/

/-- The word of 2. -/
theorem ofBits_two : Ideal.ofBits .f32 0x40000000#32 = ((2 : ℝ) : EReal) := by
  simp [Ideal.ofBits, Ideal.ieee, -EReal.coe_mul]
  norm_num

/-- The word of −2. -/
theorem ofBits_neg_two : Ideal.ofBits .f32 0xC0000000#32 = ((-2 : ℝ) : EReal) := by
  simp [Ideal.ofBits, Ideal.ieee, -EReal.coe_mul]
  norm_num

/-- The word of 9. -/
theorem ofBits_nine : Ideal.ofBits .f32 0x41100000#32 = ((9 : ℝ) : EReal) := by
  simp [Ideal.ofBits, Ideal.ieee, -EReal.coe_mul]
  norm_num

/-- The word of 8191. -/
theorem ofBits_8191 : Ideal.ofBits .f32 0x45FFF800#32 = ((8191 : ℝ) : EReal) := by
  simp [Ideal.ofBits, Ideal.ieee, -EReal.coe_mul]
  norm_num

/-- The largest finite value of the format, as a real number. -/
def fmax : ℝ := (2 - 2 ^ (-23 : ℤ)) * 2 ^ (127 : ℤ)

/-- The word of the largest finite value. -/
theorem ofBits_fmax : Ideal.ofBits .f32 0x7F7FFFFF#32 = (fmax : EReal) := by
  simp [Ideal.ofBits, Ideal.ieee, -EReal.coe_mul, fmax]
  norm_num

/-- The word of its negative. -/
theorem ofBits_neg_fmax : Ideal.ofBits .f32 0xFF7FFFFF#32 = ((-fmax : ℝ) : EReal) := by
  simp [Ideal.ofBits, Ideal.ieee, -EReal.coe_mul, fmax]
  norm_num

/-! ## The batch -/

/-- The batch of row `j`: 0 below 4096, 1 below 8191, 2 at 8191. -/
def batch (j : Fin 8192) : ℝ := if j.val < 4096 then 0 else if j.val < 8191 then 1 else 2

/-- The rounded-down line from 0 to 2 over the 8192 rows, as the programs compute it below the last row. -/
theorem line_eq (j : Fin 8192) (h : j.val < 8191) :
    Ideal.liftRound Int.floor (Ideal.ofBits .f32 0x00000000#32
        * (1 - Ideal.div (FloatOps.sitofp (F := Ideal) .f32 (BitVec.ofNat 32 j.val)) (Ideal.ofBits .f32 0x45FFF800#32))
      + Ideal.ofBits .f32 0x40000000#32
        * Ideal.div (FloatOps.sitofp (F := Ideal) .f32 (BitVec.ofNat 32 j.val)) (Ideal.ofBits .f32 0x45FFF800#32))
    = (batch j : EReal) := by
  have hj : FloatOps.sitofp (F := Ideal) .f32 (BitVec.ofNat 32 j.val) = ((j.val : ℝ) : EReal) := by
    have : (BitVec.ofNat 32 j.val).toInt = (j.val : ℤ) := by
      rw [BitVec.toInt_eq_toNat_of_lt (by simp only [BitVec.toNat_ofNat]; omega)]
      simp only [BitVec.toNat_ofNat]
      omega
    simp [FloatOps.sitofp, this]
  rw [hj, ofBits_8191, ofBits_two, Ideal.ofBits_zero_f32, Ideal.div_coe (by norm_num : (8191 : ℝ) ≠ 0), zero_mul, zero_add,
    ← EReal.coe_mul, ← EReal.coe_mul, Ideal.liftRound_coe]
  have hfl : ∀ z : ℤ, (z : ℝ) ≤ 2 * ((j.val : ℝ) * (1 / 8191)) → 2 * ((j.val : ℝ) * (1 / 8191)) < z + 1 →
      ⌊2 * ((j.val : ℝ) * (1 / 8191))⌋ = z := fun z h1 h2 => Int.floor_eq_iff.mpr ⟨h1, h2⟩
  unfold batch
  by_cases h4 : j.val < 4096
  · have h4' : (j.val : ℝ) ≤ 4095 := by exact_mod_cast Nat.le_of_lt_succ h4
    have h0 : (0 : ℝ) ≤ j.val := Nat.cast_nonneg _
    rw [if_pos h4, hfl 0 (by push_cast; linarith) (by push_cast; linarith)]
    norm_num
  · have h4' : (4096 : ℝ) ≤ j.val := by exact_mod_cast Nat.le_of_not_lt h4
    have h8 : (j.val : ℝ) ≤ 8190 := by exact_mod_cast Nat.le_of_lt_succ h
    rw [if_neg h4, if_pos h, hfl 1 (by push_cast; linarith) (by push_cast; linarith)]
    norm_num

/-- The line's last value. -/
theorem last_eq (j : Fin 8192) (h : ¬ j.val < 8191) :
    Ideal.liftRound Int.floor (Ideal.ofBits .f32 0x40000000#32) = (batch j : EReal) := by
  rw [ofBits_two]
  have : batch j = 2 := by unfold batch; rw [if_neg (by omega), if_neg h]
  rw [this, Ideal.liftRound_coe]
  norm_num

end Cert.Batch

end
-- ==== Proof.Select.lean ====
/-
  Repeated removal of the minimum, on any finite set of positions: what seven rounds of "overwrite every entry equal to the
  minimum by +∞" leave when the eight smallest entries are pairwise different. Nothing here names a program.
-/
module

public import Mathlib.Data.EReal.Basic
public import Mathlib.Data.Finset.Lattice.Fold

@[expose] public section

namespace Cert.Select

open Finset

variable {ι : Type} [Fintype ι]

/-- One round: every entry equal to the minimum becomes +∞. -/
noncomputable def cut (f : ι → EReal) : ι → EReal := fun j => if f j = univ.inf f then ⊤ else f j

/-- The eight smallest entries, in increasing order, at the positions `s 0`, …, `s 7`: different values, below +∞, and
    every other entry above the last. -/
structure Least (f : ι → EReal) (s : Fin 8 → ι) : Prop where
  mono : ∀ k l, k < l → f (s k) < f (s l)
  finite : f (s 7) < ⊤
  out : ∀ j, (∀ k, s k ≠ j) → f (s 7) < f j

variable {f : ι → EReal} {s : Fin 8 → ι}

/-- The positions are pairwise different. -/
theorem Least.ne (h : Least f s) {k l : Fin 8} (hkl : k < l) : s k ≠ s l := fun e => by
  have := h.mono k l hkl
  rw [e] at this
  exact lt_irrefl _ this

/-- Each of the eight is at most the last. -/
theorem Least.le_last (h : Least f s) (k : Fin 8) : f (s k) ≤ f (s 7) := by
  by_cases hk : k = 7
  · rw [hk]
  · exact (h.mono k 7 (by omega)).le

/-- What `r` rounds leave: +∞ at the `r` smallest, the entry elsewhere. -/
def Removed (f : ι → EReal) (s : Fin 8 → ι) (r : Nat) (g : ι → EReal) : Prop :=
  (∀ k : Fin 8, k.val < r → g (s k) = ⊤) ∧ ∀ j, (∀ k : Fin 8, k.val < r → s k ≠ j) → g j = f j

/-- After `r ≤ 7` rounds the minimum is the next smallest entry. -/
theorem Least.inf_eq (h : Least f s) {r : Nat} (hr : r < 8) {g : ι → EReal} (hg : Removed f s r g) :
    univ.inf g = f (s ⟨r, hr⟩) := by
  have hat : g (s ⟨r, hr⟩) = f (s ⟨r, hr⟩) := hg.2 _ fun k hk => h.ne (Fin.lt_def.mpr hk)
  apply le_antisymm
  · rw [← hat]; exact Finset.inf_le (mem_univ _)
  · refine Finset.le_inf fun j _ => ?_
    by_cases hj : ∃ k : Fin 8, s k = j
    · obtain ⟨k, rfl⟩ := hj
      rcases lt_or_ge k.val r with hk | hk
      · rw [hg.1 k hk]; exact le_top
      · rw [hg.2 _ fun l hl => h.ne (Fin.lt_def.mpr (lt_of_lt_of_le hl hk))]
        rcases eq_or_lt_of_le hk with e | e
        · have : (⟨r, hr⟩ : Fin 8) = k := Fin.ext e
          rw [this]
        · exact (h.mono ⟨r, hr⟩ k (Fin.lt_def.mpr e)).le
    · have hj' : ∀ k, s k ≠ j := fun k e => hj ⟨k, e⟩
      rw [hg.2 j fun k _ => hj' k]
      exact (h.le_last _).trans (h.out j hj').le

/-- A round removes the next smallest entry and no other. -/
theorem Least.removed_succ (h : Least f s) {r : Nat} (hr : r < 7) {g : ι → EReal} (hg : Removed f s r g) :
    Removed f s (r + 1) (cut g) := by
  have hi := h.inf_eq (by omega) hg
  have hlt : f (s ⟨r, by omega⟩) < ⊤ := lt_of_le_of_lt (h.le_last _) h.finite
  refine ⟨fun k hk => ?_, fun j hj => ?_⟩
  · unfold cut
    split
    · rfl
    · next hne =>
      rcases Nat.lt_succ_iff_lt_or_eq.mp hk with hk' | hk'
      · exact hg.1 k hk'
      · exfalso
        apply hne
        have e : k = ⟨r, by omega⟩ := Fin.ext hk'
        rw [hi, hg.2 (s k) fun l hl => h.ne (Fin.lt_def.mpr (by omega)), e]
  · have hgj : g j = f j := hg.2 j fun k hk => hj k (by omega)
    unfold cut
    rw [if_neg, hgj]
    rw [hi, hgj]
    intro e
    by_cases hk : ∃ k : Fin 8, s k = j
    · obtain ⟨k, rfl⟩ := hk
      have hk' : r < k.val := by
        by_contra hc
        exact hj k (by omega) rfl
      exact absurd e (h.mono ⟨r, by omega⟩ k (Fin.lt_def.mpr hk')).ne'
    · exact absurd e (lt_of_le_of_lt (h.le_last _) (h.out j fun k e' => hk ⟨k, e'⟩)).ne'

/-- Seven rounds remove exactly the seven smallest entries. -/
theorem Least.removed_seven (h : Least f s) : Removed f s 7 (cut (cut (cut (cut (cut (cut (cut f))))))) :=
  h.removed_succ (by omega) <| h.removed_succ (by omega) <| h.removed_succ (by omega) <| h.removed_succ (by omega) <|
    h.removed_succ (by omega) <| h.removed_succ (by omega) <| h.removed_succ (by omega)
      ⟨fun _ hk => absurd hk (Nat.not_lt_zero _), fun _ _ => rfl⟩

/-- THE SELECTION. Let `p` be the one position whose entry is +∞ from the start. After seven rounds the entries that are +∞
    or equal to the minimum are those at `p` and at the positions of the eight smallest entries. -/
theorem Least.selected (h : Least f s) {p : ι} (hp : f p = ⊤) (hfin : ∀ j, j ≠ p → f j < ⊤) (j : ι) :
    (cut (cut (cut (cut (cut (cut (cut f)))))) j = ⊤
      ∨ cut (cut (cut (cut (cut (cut (cut f)))))) j = univ.inf (cut (cut (cut (cut (cut (cut (cut f)))))))) ↔ j = p ∨ ∃ k, s k = j := by
  have hg := h.removed_seven
  have hi := h.inf_eq (by omega) hg
  rw [hi]
  by_cases hk : ∃ k, s k = j
  · obtain ⟨k, rfl⟩ := hk
    refine iff_of_true ?_ (Or.inr ⟨k, rfl⟩)
    rcases lt_or_ge k.val 7 with h7 | h7
    · exact Or.inl (hg.1 k h7)
    · have e : k = ⟨7, by omega⟩ := Fin.ext (by have := k.isLt; show k.val = 7; omega)
      rw [e]
      exact Or.inr (hg.2 _ fun l hl => h.ne (Fin.lt_def.mpr hl))
  · have hk' : ∀ k, s k ≠ j := fun k e => hk ⟨k, e⟩
    rw [hg.2 j fun k _ => hk' k]
    constructor
    · rintro (e | e)
      · left
        by_contra hne
        exact (hfin j hne).ne e
      · exact absurd e (h.out j hk').ne'
    · rintro (rfl | e)
      · exact Or.inl hp
      · exact absurd e hk

end Cert.Select

end
-- ==== Proof.Block.lean ====
/-
  The kernel's body read at an entry, over the extended reals: what one grid point leaves at row `r`, column `e` of its output
  block, as scalar sums over the entries of its input blocks.
-/
module

public import proofs.«01_k».proof.Proof.Gen.KernelIdeal.Frame
public import proofs.«01_k».proof.Proof.Select
public import Idealize.ShloMosaic.Lib.Pointwise

@[expose] public section

noncomputable section

namespace Cert.Block

open Idealize.ShloMosaic Idealize.SL.Sem Cert.KernelIdeal Cert.KernelIdeal.Gen Cert.Select

/-- The word the body starts its minima from is +∞. -/
theorem ofBits_inf : Ideal.ofBits .f32 0x7F800000#32 = ⊤ := by
  simp [Ideal.ofBits, Ideal.ieee]

/-! ## The start distances -/

/-- The distance the body computes between row `r` of its row block and row `j` of its column block, with the largest finite
    value where the column's batch is 2. -/
def dist (x0 : Vec Ideal S1024x64 .f32) (x1 : Vec Ideal S4096x64 .f32) (x2 : Vec Ideal S1x4096 .f32)
    (r : Fin 1024) (j : Fin 4096) : EReal :=
  if x2 (ix2 0 j) = Ideal.ofBits .f32 0x40000000#32 then Ideal.ofBits .f32 0x7F7FFFFF#32
  else ((∑ k : Fin 64, x0 (ix2 r k) * x0 (ix2 r k)) + ∑ k : Fin 64, x1 (ix2 j k) * x1 (ix2 j k))
    + ∑ k : Fin 64, Ideal.ofBits .f32 0xC0000000#32 * x0 (ix2 r k) * x1 (ix2 j k)

/-- The masked distances of a block, at an entry. -/
theorem pay4_apply (x0 : Vec Ideal S1024x64 .f32) (x1 : Vec Ideal S4096x64 .f32) (x2 : Vec Ideal S1x4096 .f32)
    (r : Fin 1024) (j : Fin 4096) : k0_pay4 (F := Ideal) x0 x1 x2 (ix2 r j) = dist x0 x1 x2 r j := by
  unfold dist
  pointwise [k0_pay4, k0_pay2, k0_pay3]

/-! ## One removal round -/

/-- The row of a block of distances. -/
def row (v : FVec Ideal S1024x4096 .f32) (r : Fin 1024) : Fin 4096 → EReal := fun j => v (ix2 r j)

/-- One round as the body writes it. -/
def remove (v : FVec Ideal S1024x4096 .f32) : FVec Ideal S1024x4096 .f32 :=
  select (cmpf .oeq v (broadcastTo S1024x4096 (shapeCast S1024x1
      (multiReduction .minimumf [1] S1024 v 0x7F800000#32 reduces_S1024x4096_S1024 (.inl rfl) rfl)
      shapeCasts_S1024_S1024x1) broadcasts_S1024x1_S1024x4096))
    (broadcast S1024x4096 (Scalar.ofBits .f32 0x7F800000#32)) v

/-- Removing the least values of a block is removing them in each row. -/
theorem row_remove (v : FVec Ideal S1024x4096 .f32) (r : Fin 1024) : row (remove v) r = cut (row v r) := by
  funext j
  unfold row remove cut
  pointwise
  rw [ofBits_inf]
  rfl

/-! ## The row before the first round -/

/-- The word of the row's own column inside its column block, as the body computes it from the grid coordinate. -/
def base (n : BitVec 32) : BitVec 32 :=
  Scalar.subi (Scalar.muli n 1024#32) (Scalar.muli (Scalar.select (Scalar.andi
      (Scalar.cmpi .ne (Scalar.subi (Scalar.extui (Scalar.cmpi .sgt n 0#32)) (Scalar.extui (Scalar.cmpi .slt n 0#32)))
        (Scalar.subi (Scalar.extui (Scalar.cmpi .sgt 4#32 0#32)) (Scalar.extui (Scalar.cmpi .slt 4#32 0#32))))
      (Scalar.cmpi .ne (Scalar.remsi n 4#32) 0#32))
    (Scalar.subi (Scalar.divsi n 4#32) 1#32) (Scalar.divsi n 4#32)) 4096#32)

/-- At the grid's eight points that word is 1024 times the coordinate's remainder by 4. -/
theorem base_eq (n : Fin 8) : base (BitVec.ofNat 32 n.val) = BitVec.ofNat 32 (n.val % 4 * 1024) := by
  revert n; decide

/-- The block of distances the body holds before its first round. -/
def first (b : BitVec 32) (v : FVec Ideal S1024x4096 .f32) : FVec Ideal S1024x4096 .f32 :=
  select (cmpi .eq (iota .tc S1024x4096 32 [1] iota_S1024x4096_d1_w32)
      (addi (broadcast S1024x4096 b) (iota .tc S1024x4096 32 [0] iota_S1024x4096_d0_w32)))
    (broadcast S1024x4096 (Scalar.ofBits .f32 0x7F800000#32)) v

/-- A row of grid point `n` after the row itself is struck out. -/
theorem first_apply (n : Fin 8) (v : FVec Ideal S1024x4096 .f32) (r : Fin 1024) (j : Fin 4096) :
    first (BitVec.ofNat 32 (n.val % 4 * 1024)) v (ix2 r j) = if j.val = n.val % 4 * 1024 + r.val then ⊤ else v (ix2 r j) := by
  unfold first
  pointwise
  rw [ofBits_inf]
  have hj := j.isLt
  have hr := r.isLt
  have hn : n.val % 4 < 4 := Nat.mod_lt _ (by omega)
  have hiff : BitVec.ofNat 32 j.val = BitVec.ofNat 32 (n.val % 4 * 1024) + BitVec.ofNat 32 r.val
      ↔ j.val = n.val % 4 * 1024 + r.val := by
    rw [← BitVec.toNat_inj]
    simp only [BitVec.toNat_ofNat, BitVec.toNat_add]
    omega
  by_cases h : j.val = n.val % 4 * 1024 + r.val
  · rw [if_pos h]
    have := hiff.mpr h
    simp [Scalar.select, IntOp.cmpi, IntOp.addi, this]
  · rw [if_neg h]
    have hb : (BitVec.ofNat 32 j.val == BitVec.ofNat 32 (n.val % 4 * 1024) + BitVec.ofNat 32 r.val) = false :=
      beq_false_of_ne fun e => h (hiff.mp e)
    simp [Scalar.select, IntOp.cmpi, IntOp.addi, hb]

/-- The entries that are selected after seven rounds: those at +∞ or at the minimum. -/
def Sel (f : Fin 4096 → EReal) (j : Fin 4096) : Prop :=
  cut (cut (cut (cut (cut (cut (cut f)))))) j = ⊤
    ∨ cut (cut (cut (cut (cut (cut (cut f)))))) j = Finset.univ.inf (cut (cut (cut (cut (cut (cut (cut f)))))))

open Classical in
/-- The weight of a condition: 1 where it holds, 0 elsewhere. -/
def weight (p : Prop) : EReal := if p then 1 else 0

/-- The row minima spread over their rows, as the body writes them. -/
def minima (v : FVec Ideal S1024x4096 .f32) : FVec Ideal S1024x4096 .f32 :=
  broadcastTo S1024x4096 (shapeCast S1024x1
    (multiReduction .minimumf [1] S1024 v 0x7F800000#32 reduces_S1024x4096_S1024 (.inl rfl) rfl)
    shapeCasts_S1024_S1024x1) broadcasts_S1024x1_S1024x4096

/-- The 0/1 weights the body takes from what the rounds left. -/
def marked (g : FVec Ideal S1024x4096 .f32) : FVec Ideal S1024x4096 .f32 :=
  sitofp .f32 (extui 32 (ori (cmpf .oeq g (broadcast S1024x4096 (Scalar.ofBits .f32 0x7F800000#32)))
    (cmpf .oeq g (minima g))) natLt_1_32)

/-- Which entries the mask holds after the last round. -/
theorem marked_apply (g : FVec Ideal S1024x4096 .f32) (r : Fin 1024) (j : Fin 4096) :
    marked g (ix2 r j) = weight (row g r j = ⊤ ∨ row g r j = Finset.univ.inf (row g r)) := by
  unfold marked minima row weight
  pointwise
  rw [ofBits_inf]
  have hinf : Finset.fold min ⊤ (fun x => g (ix2 r x)) Finset.univ = Finset.univ.inf fun j => g (ix2 r j) := rfl
  rw [hinf]
  generalize Finset.univ.inf (fun j => g (ix2 r j)) = b
  generalize g (ix2 r j) = a
  have hone : FloatOps.sitofp (F := Ideal) .f32 (1#32) = (1 : EReal) := by
    simp [FloatOps.sitofp]
  have hzero : FloatOps.sitofp (F := Ideal) .f32 (0#32) = (0 : EReal) := by
    simp [FloatOps.sitofp]
  by_cases h1 : a = ⊤ <;> by_cases h2 : a = b
  · rw [decide_eq_true h1, decide_eq_true h2, if_pos (Or.inl h1)]; exact hone
  · rw [decide_eq_true h1, decide_eq_false h2, if_pos (Or.inl h1)]; exact hone
  · rw [decide_eq_false h1, decide_eq_true h2, if_pos (Or.inr h2)]; exact hone
  · rw [decide_eq_false h1, decide_eq_false h2, if_neg (not_or.mpr ⟨h1, h2⟩)]; exact hzero

/-- What follows the weights: the sum of the selected rows, the last row's replacement, the mean and the first product. -/
def combine (n : BitVec 32) (v1 : FVec Ideal S1024x64 .f32) (v3 : FVec Ideal S4096x64 .f32) (wt : FVec Ideal S1024x4096 .f32)
    (x3 : Vec Ideal S8x64 .f32) (x4 : FVec Ideal S64x64 .f32) (x6 : Vec Ideal S1x64 .f32) : FVec Ideal S1024x64 .f32 :=
  addf (matmul dot_S1024x64_S64x64_S1024x64_1_0_0_1_n_n none (divf (select
      (broadcastTo S1024x64 (shapeCast S1024x1 (cmpi .eq
          (addi (broadcast S1024x1 (Scalar.muli n 1024#32)) (iota .tc S1024x1 32 [0] iota_S1024x1_d0_w32))
          (broadcast S1024x1 8191#32)) shapeCasts_S1024x1_S1024x1) broadcasts_S1024x1_S1024x64)
      (broadcastTo S1024x64 (shapeCast S1x64 (addf (shapeCast S1x64 (multiReduction .add [0] S64
          (shapeCast S8x64 x3 shapeCasts_S8x64_S8x64) 0x00000000#32 reduces_S8x64_S64 (.inl rfl) rfl) shapeCasts_S64_S1x64)
          (extractStridedSlice S1x64 ![1023, 0] v1 slices_S1024x64_o1023_0_S1x64)) shapeCasts_S1x64_S1x64)
        broadcasts_S1x64_S1024x64)
      (matmul dot_S1024x4096_S4096x64_S1024x64_1_0_0_1_n_n none wt v3 (constant S1024x64 .f32 0x00000000#32)))
      (broadcast S1024x64 (Scalar.ofBits .f32 0x41100000#32))) x4 (constant S1024x64 .f32 0x00000000#32))
    (broadcastTo S1024x64 (shapeCast S1x64 x6 shapeCasts_S1x64_S1x64) broadcasts_S1x64_S1024x64)

/-- The last part of the body, at an entry: the sums of the neighbours, the mean, its product and the bias. -/
theorem combine_apply (n : BitVec 32) (v1 : FVec Ideal S1024x64 .f32) (v3 : FVec Ideal S4096x64 .f32)
    (wt : FVec Ideal S1024x4096 .f32)
    (x3 : Vec Ideal S8x64 .f32) (x4 : Vec Ideal S64x64 .f32) (x6 : Vec Ideal S1x64 .f32) (r : Fin 1024) (e : Fin 64) :
    combine n v1 v3 wt x3 x4 x6 (ix2 r e)
    = (∑ k : Fin 64, Ideal.div (if n * 1024#32 + BitVec.ofNat 32 r.val = 8191#32
          then (∑ q : Fin 8, x3 (ix2 q k)) + v1 (ix2 1023 k)
          else ∑ j : Fin 4096, wt (ix2 r j) * v3 (ix2 j k)) (Ideal.ofBits .f32 0x41100000#32) * x4 (ix2 k e))
      + x6 (ix2 0 e) := by
  pointwise [combine]
  congr 1
  refine Finset.sum_congr rfl fun k _ => ?_
  congr 2
  by_cases h : n * 1024#32 + BitVec.ofNat 32 r.val = 8191#32
  · rw [if_pos h]
    simp [Scalar.select, IntOp.cmpi, IntOp.addi, Scalar.muli, IntOp.muli, h]
  · rw [if_neg h]
    have hb : (n * 1024#32 + BitVec.ofNat 32 r.val == 8191#32) = false := beq_false_of_ne h
    simp [Scalar.select, IntOp.cmpi, IntOp.addi, Scalar.muli, IntOp.muli, hb]

/-- The first rounds of the body: the row itself is struck out, then five removals. -/
theorem pay5_eq (n : BitVec 32) (v24 : FVec Ideal S1024x4096 .f32) :
    k0_pay5 v24 (iota .tc S1024x4096 32 [1] iota_S1024x4096_d1_w32) (Scalar.muli n 1024#32) (Scalar.divsi n 4#32)
      (Scalar.cmpi .ne (Scalar.subi (Scalar.extui (Scalar.cmpi .sgt n 0#32)) (Scalar.extui (Scalar.cmpi .slt n 0#32)))
        (Scalar.subi (Scalar.extui (Scalar.cmpi .sgt 4#32 0#32)) (Scalar.extui (Scalar.cmpi .slt 4#32 0#32))))
      (Scalar.remsi n 4#32) 0#32
    = remove (remove (remove (remove (remove (first (base n) v24))))) := rfl

/-- The rest of the rounds: two more removals, the mask and the last part. -/
theorem pay7_eq (n : BitVec 32) (v1 : FVec Ideal S1024x64 .f32) (v3 : FVec Ideal S4096x64 .f32) (w : FVec Ideal S1024x4096 .f32)
    (x3 : Vec Ideal S8x64 .f32) (x4 : Vec Ideal S64x64 .f32) (x6 : Vec Ideal S1x64 .f32) :
    k0_pay7 n v1 v3 w (cmpf .oeq w (minima w)) x3 x4 x6
    = combine n v1 v3 (marked (remove (remove w))) x3 x4 x6 := rfl

/-- What a grid point writes, by these parts: the strike, seven removals, the mask, the last part and the second product. -/
theorem out_eq (i : grid0.Coords) (x0 : Vec Ideal S1024x64 .f32) (x1 : Vec Ideal S4096x64 .f32) (x2 : Vec Ideal S1x4096 .f32)
    (x3 : Vec Ideal S8x64 .f32) (x4 : Vec Ideal S64x64 .f32) (x5 : Vec Ideal S64x64 .f32) (x6 : Vec Ideal S1x64 .f32) :
    out0_7 i x0 x1 x2 x3 x4 x5 x6
      = k0_pay1 (k0_pay2 x0) (combine (BitVec.ofNat 32 (i 0).val) (k0_pay2 x0) (k0_pay3 x1)
          (marked (remove (remove (remove (remove (remove (remove (remove
            (first (base (BitVec.ofNat 32 (i 0).val)) (k0_pay4 x0 x1 x2))))))))))
          x3 x4 x6) x5 := by
  unfold_out out0_7
  have hz : (![0, 0] : Fin 2 → Nat) = fun _ => 0 := by decide
  have e0 : View.ld x0 r0_0 = x0 := View.ld_unit_zero (Val := Elt Ideal) (S := S1024x64) hz _ x0
  have e1 : View.ld x1 r0_1 = x1 := View.ld_unit_zero (Val := Elt Ideal) (S := S4096x64) hz _ x1
  have e2 : View.ld x2 r0_2 = x2 := View.ld_unit_zero (Val := Elt Ideal) (S := S1x4096) hz _ x2
  have e3 : View.ld x3 r0_3 = x3 := View.ld_unit_zero (Val := Elt Ideal) (S := S8x64) hz _ x3
  have e4 : View.ld x4 r0_4 = x4 := View.ld_unit_zero (Val := Elt Ideal) (S := S64x64) hz _ x4
  have e5 : View.ld x5 r0_4 = x5 := View.ld_unit_zero (Val := Elt Ideal) (S := S64x64) hz _ x5
  have e6 : View.ld x6 r0_5 = x6 := View.ld_unit_zero (Val := Elt Ideal) (S := S1x64) hz _ x6
  rw [e0, e1, e2, e3, e4, e5, e6]
  refine (View.canon_unit_zero (Val := Elt Ideal) (S := S1024x64) hz _ _).trans ?_
  rw [← pay7_eq, ← pay5_eq]
  rfl

/-! ## The body's result -/

/-- WHAT A GRID POINT LEAVES. At point `n`, row `r`, column `e`: the mean of the selected rows (for the last row of the last
    point: of the first eight rows and the row itself) through the first weights, the bias, and the row through the second. -/
theorem out_apply (i : grid0.Coords) (x0 : Vec Ideal S1024x64 .f32) (x1 : Vec Ideal S4096x64 .f32) (x2 : Vec Ideal S1x4096 .f32)
    (x3 : Vec Ideal S8x64 .f32) (x4 : Vec Ideal S64x64 .f32) (x5 : Vec Ideal S64x64 .f32) (x6 : Vec Ideal S1x64 .f32)
    (r : Fin 1024) (e : Fin 64) :
    out0_7 i x0 x1 x2 x3 x4 x5 x6 (ix2 r e)
      = ((∑ k : Fin 64, Ideal.div (if (i 0).val * 1024 + r.val = 8191
          then (∑ q : Fin 8, x3 (ix2 q k)) + x0 (ix2 1023 k)
          else ∑ j : Fin 4096, weight (Sel (fun l : Fin 4096 =>
            if l.val = (i 0).val % 4 * 1024 + r.val then ⊤ else dist x0 x1 x2 r l) j) * x1 (ix2 j k)) (Ideal.ofBits .f32 0x41100000#32) * x4 (ix2 k e))
        + x6 (ix2 0 e)) + ∑ k : Fin 64, x0 (ix2 r k) * x5 (ix2 k e) := by
  obtain ⟨n, hn⟩ : ∃ n : Fin 8, (i 0).val = n.val := ⟨i 0, rfl⟩
  rw [out_eq, hn, base_eq]
  have hiff : BitVec.ofNat 32 n.val * 1024#32 + BitVec.ofNat 32 r.val = 8191#32 ↔ n.val * 1024 + r.val = 8191 := by
    have := n.isLt
    have := r.isLt
    rw [← BitVec.toNat_inj]
    simp only [BitVec.toNat_ofNat, BitVec.toNat_add, BitVec.toNat_mul]
    omega
  have hrow : ∀ v, row (first (BitVec.ofNat 32 (n.val % 4 * 1024)) v) r
      = fun l => if l.val = n.val % 4 * 1024 + r.val then ⊤ else v (ix2 r l) := fun v => by
    funext l
    exact first_apply n v r l
  have hp1 : ∀ v : FVec Ideal S1024x64 .f32, k0_pay1 (k0_pay2 x0) v x5 (ix2 r e)
      = v (ix2 r e) + ∑ k : Fin 64, x0 (ix2 r k) * x5 (ix2 k e) := fun v => by
    pointwise [k0_pay1, k0_pay2]
  have h2 : ∀ a b, k0_pay2 (F := Ideal) x0 (ix2 a b) = x0 (ix2 a b) := fun a b => by pointwise [k0_pay2]
  have h3 : ∀ a b, k0_pay3 (F := Ideal) x1 (ix2 a b) = x1 (ix2 a b) := fun a b => by pointwise [k0_pay3]
  rw [hp1, combine_apply]
  simp only [marked_apply, row_remove, hrow, pay4_apply, hiff, h2, h3]
  rfl

end Cert.Block

end
-- ==== Proof.Host.lean ====
/-
  The arrays the kernel's host operations prepare, read at an entry over the extended reals.
-/
module

public import proofs.«01_k».proof.Proof.Gen.KernelIdeal.Frame
public import proofs.«01_k».proof.Proof.Batch
public import Idealize.ShloMosaic.Lib.Pointwise
public import Idealize.ShloMosaic.Lib.Claim
public import Idealize.ShloMosaic.Lib.StableHlo.ReadAt

@[expose] public section

noncomputable section

namespace Cert.HostRead

open Idealize.ShloMosaic Idealize.SL.Sem Cert.KernelIdeal Cert.KernelIdeal.Gen

variable (m : (ℓ : Loc nD τ sig) → Buf (Elt Ideal) ℓ) (c : Dev nD)

/-- The points: row `i` of the transposed and reshaped argument. -/
def pts (a : S2x64x64x64.Idx → EReal) (i : Fin 8192) (k : Fin 64) : EReal :=
  a (ix4 ⟨i.val / 4096, by omega⟩ k ⟨i.val / 64 % 64, by omega⟩ ⟨i.val % 64, by omega⟩)

/-- The rows of points, as the host code hands them over. -/
theorem V_v1 (i : Fin 8192) (k : Fin 64) :
    (V m c main_v1 : S8192x64.Idx → EReal) (ix2 i k) = pts (m ((c.tc : Thread nD τ).loc main_arg0)) i k := by
  unfold V
  after_reads_at
  rfl

/-- The first eight rows of points. -/
theorem V_v5 (i : Fin 8) (k : Fin 64) :
    (V m c main_v5 : S8x64.Idx → EReal) (ix2 i k)
      = pts (m ((c.tc : Thread nD τ).loc main_arg0)) ⟨i.val, by omega⟩ k := by
  unfold V
  after_reads_at
  rfl

/-- The bias as one row. -/
theorem V_v6 (k : Fin 64) :
    (V m c main_v6 : S1x64.Idx → EReal) (ix2 0 k)
      = (m ((c.tc : Thread nD τ).loc main_arg3) : S64.Idx → EReal) (ix1 k) := by
  unfold V
  after_reads_at
  try rfl

/-- The batch numbers as one row. -/
theorem V_v4 (k : Fin 8192) :
    (V m c main_v4 : S1x8192.Idx → EReal) (ix2 0 k) = (Batch.batch k : EReal) := by
  unfold V
  after_reads_at
  by_cases h : k.val < 8191
  · rw [dif_pos h]
    after_reads_at
    exact Batch.line_eq k h
  · rw [dif_neg h]
    after_reads_at
    exact Batch.last_eq k h

end Cert.HostRead

end
-- ==== Proof.RefKey.lean ====
/-
  The keys the reference ranks, read at an entry over the extended reals.
-/
module

public import proofs.«01_k».proof.Proof.Gen.ReferenceIdeal.Read
public import proofs.«01_k».proof.Proof.Batch
public import proofs.«01_k».proof.Proof.Block
public import proofs.«01_k».proof.Proof.Host
public import Idealize.ShloMosaic.Lib.Pointwise

@[expose] public section

noncomputable section

namespace Cert.RefKey

open Idealize.ShloMosaic Cert.ReferenceIdeal Cert.ReferenceIdeal.Read Cert.HostRead

variable (x : S2x64x64x64.Idx → EReal)

/-- The rows of points. -/
theorem v1_apply (i : Fin 8192) (k : Fin 64) : (val_main_v1 (F := Ideal) x : S8192x64.Idx → EReal) (ix2 i k) = pts x i k := by
  pointwise [val_main_v1, val_main_v0]
  rfl

/-- The batch numbers as real numbers. -/
theorem v3_apply (i : Fin 8192) : (val_main_v3 (F := Ideal) : S8192.Idx → EReal) (ix1 i) = (Batch.batch i : EReal) := by
  pointwise [val_main_v3, val_main_v2, val_main_call0_v15, val_main_call0_v16, val_main_call0_v14, val_main_call0_v13, val_main_call0_v12, val_main_call0_v11, val_main_call0_v10, val_main_call0_v9, val_main_call0_v8, val_main_call0_cst_1, val_main_call0_v7, val_main_call0_v6, val_main_call0_v5, val_main_call0_cst_0, val_main_call0_v4, val_main_call0_v0, val_main_call0_v1, val_main_cst, val_main_cst_0]
  by_cases h : i.val < 8191
  · rw [dif_pos h]
    exact Batch.line_eq i h
  · rw [dif_neg h]
    exact Batch.last_eq i h

/-- The squared distance as the reference expands it. -/
def rdist (P : Fin 8192 → Fin 64 → EReal) (i j : Fin 8192) : EReal :=
  ((∑ k, P i k * P i k) + ∑ k, P j k * P j k) - Ideal.ofBits .f32 0x40000000#32 * ∑ k, P i k * P j k

/-- What the reference ranks: the negated distance, and minus infinity across batches. -/
def key (P : Fin 8192 → Fin 64 → EReal) (i j : Fin 8192) : EReal :=
  -(if Batch.batch i = Batch.batch j then rdist P i j else ⊤)

/-- The distances, before the batches are compared. -/
theorem v16_apply (i j : Fin 8192) : (val_main_v16 (F := Ideal) x : S8192x8192.Idx → EReal) (ix2 i j)
    = rdist (pts x) i j := by
  unfold rdist
  pointwise [val_main_v16, val_main_v15, val_main_v14, val_main_cst_2, val_main_v13, val_main_v12, val_main_v11, val_main_v10, val_main_v9, val_main_v8, val_main_v7, val_main_v6, val_main_v5, val_main_cst_1]
  simp only [v1_apply]

/-- The batch of a row as a word. -/
def word (i : Fin 8192) : BitVec 32 := if i.val < 4096 then 0#32 else if i.val < 8191 then 1#32 else 2#32

/-- The batch numbers as words. -/
theorem fptosi_batch (i : Fin 8192) : FloatOps.fptosi (F := Ideal) (φ := .f32) 32 (Batch.batch i : EReal) = word i := by
  show BitVec.ofInt 32 (max _ (min _ (if 0 ≤ Batch.batch i then ⌊Batch.batch i⌋ else ⌈Batch.batch i⌉))) = _
  unfold Batch.batch word
  split_ifs <;> simp_all

/-- Two words are equal if the batches are. -/
theorem word_eq_iff (i j : Fin 8192) : word i = word j ↔ Batch.batch i = Batch.batch j := by
  unfold Batch.batch word
  split_ifs <;> simp

/-- The values the reference ranks. -/
theorem v23_apply (i j : Fin 8192) : (val_main_v23 (F := Ideal) x : S8192x8192.Idx → EReal) (ix2 i j) = key (pts x) i j := by
  pointwise [val_main_v23, val_main_v22, val_main_call1_v1, val_main_call1_v0, val_main_cst_3, val_main_v21, val_main_v20, val_main_v19, val_main_v18, val_main_v17, val_main_v4]
  rw [v3_apply, v3_apply, fptosi_batch, fptosi_batch, v16_apply]
  unfold key
  congr 1
  have htop : id (constant (F := Ideal) S_ .f32 0x7F800000#32) ix0 = (⊤ : EReal) := Block.ofBits_inf
  rw [htop]
  by_cases h : word i = word j
  · rw [if_pos ((word_eq_iff i j).mp h)]
    simp [Scalar.select, IntOp.cmpi, h]
  · have hb : (word i == word j) = false := beq_false_of_ne h
    rw [if_neg fun h' => h ((word_eq_iff i j).mpr h')]
    simp [Scalar.select, IntOp.cmpi, hb]

end Cert.RefKey

end
-- ==== Proof.Rank.lean ====
/-
  The positions of a row in the order of the reference's top-k: greatest entry first, equal entries by position.
-/
module

public import Idealize.ShloMosaic.Lib.SortFacts
public import Idealize.ShloMosaic.Lib.Pointwise

@[expose] public section

noncomputable section

namespace Cert.Rank

open Idealize.ShloMosaic

variable {n : Nat}

/-- The position of the entry that comes `k`-th. -/
def rank (f : Fin n → EReal) : Fin n → Fin n := sortedFrom fun k k' => decide (f k' < f k)

/-- No position comes twice. -/
theorem rank_injective (f : Fin n → EReal) : Function.Injective (rank f) := sortedFrom_injective _

/-- Every position comes. -/
theorem rank_surjective (f : Fin n → EReal) : Function.Surjective (rank f) := sortedFrom_surjective _

/-- A later entry is at most an earlier one. -/
theorem rank_anti (f : Fin n → EReal) {i j : Fin n} (h : i ≤ j) : f (rank f j) ≤ f (rank f i) := by
  rcases eq_or_lt_of_le h with rfl | h
  · exact le_rfl
  · have := sortedFrom_noInversion (fun k k' => decide (f k' < f k)) (fun k k' => decide (f k' < f k))
      (fun a b hab => by simp only [decide_eq_true_eq, decide_eq_false_iff_not, not_lt] at *; exact hab.le)
      (fun _ _ hab => hab)
      (fun a b c hab hbc => by simp only [decide_eq_false_iff_not, not_lt] at *; exact hab.trans hbc) i j h
    exact not_lt.mp (of_decide_eq_false this)

/-! ## A row whose last entry alone is above the others, which are all equal -/

/-- Sorting a list whose last element goes before all others, which stay in place. -/
theorem stableSort_last {ι : Type} (R : ι → ι → Bool) (p : ι) (l : List ι) (hp : ∀ a ∈ l, R p a = true)
    (hl : ∀ a ∈ l, ∀ b ∈ l, R a b = false) : stableSort R (l ++ [p]) = p :: l := by
  induction l with
  | nil => rfl
  | cons a l ih =>
    have ih' := ih (fun b hb => hp b (List.mem_cons_of_mem a hb))
      fun b hb d hd => hl b (List.mem_cons_of_mem a hb) d (List.mem_cons_of_mem a hd)
    rw [List.cons_append, stableSort, ih', insertBefore, if_pos (hp a List.mem_cons_self)]
    congr 1
    cases l with
    | nil => rfl
    | cons b l =>
      rw [insertBefore, if_neg]
      rw [hl b (List.mem_cons_of_mem a List.mem_cons_self) a List.mem_cons_self]
      exact Bool.false_ne_true

/-- When only the last position holds more than the common value of the others, the order is: the last, then the others as they come. -/
theorem sortPositions_last (f : Fin (n + 1) → EReal) {v : EReal} (hv : v < f (Fin.last n))
    (hf : ∀ j : Fin n, f j.castSucc = v) :
    sortPositions (n + 1) (fun k k' => decide (f k' < f k)) = Fin.last n :: (List.finRange n).map Fin.castSucc := by
  unfold sortPositions
  rw [List.finRange_succ_last]
  refine stableSort_last _ _ _ (fun a ha => ?_) fun a ha b hb => ?_
  · obtain ⟨j, -, rfl⟩ := List.mem_map.mp ha
    rw [hf j]
    exact decide_eq_true hv
  · obtain ⟨j, -, rfl⟩ := List.mem_map.mp ha
    obtain ⟨l, -, rfl⟩ := List.mem_map.mp hb
    rw [hf j, hf l]
    exact decide_eq_false (lt_irrefl v)

/-- The last position comes first. -/
theorem rank_last_zero (f : Fin (n + 1) → EReal) {v : EReal} (hv : v < f (Fin.last n))
    (hf : ∀ j : Fin n, f j.castSucc = v) : rank f 0 = Fin.last n := by
  unfold rank sortedFrom
  rw [List.get_of_eq (sortPositions_last f hv hf)]
  rfl

/-- The others follow in their order. -/
theorem rank_last_succ (f : Fin (n + 1) → EReal) {v : EReal} (hv : v < f (Fin.last n))
    (hf : ∀ j : Fin n, f j.castSucc = v) (k : Fin n) : rank f k.succ = k.castSucc := by
  unfold rank sortedFrom
  rw [List.get_of_eq (sortPositions_last f hv hf)]
  simp

/-! ## The top-k operation read at an entry -/

/-- The second coordinate of a matrix position replaced. -/
theorem along_one {a b : Nat} (i : Fin a) (q k : Fin b) :
    Shape.Idx.along (s := ⟨2, ![a, b]⟩) (ix2 i q) (1 : Fin 2) k = ix2 i k := by
  funext d
  match d with
  | ⟨0, _⟩ => rfl
  | ⟨1, _⟩ => rfl

/-- A pair sort by the first member, greatest first, of a matrix along its rows. -/
theorem sort2_eq {β : Type} {a b : Nat} (x : (⟨2, ![a, b]⟩ : Shape).Idx → EReal) (y : (⟨2, ![a, b]⟩ : Shape).Idx → β)
    (i : Fin a) (q : Fin b) :
    (Host.sort2 ⟨2, ![a, b]⟩ 1 (fun l r => FloatOps.cmpfTotal (F := Ideal) (φ := .f32) .gt l.1 r.1) x y).1 (ix2 i q)
        = x (ix2 i (rank (fun j => x (ix2 i j)) q))
      ∧ (Host.sort2 ⟨2, ![a, b]⟩ 1 (fun l r => FloatOps.cmpfTotal (F := Ideal) (φ := .f32) .gt l.1 r.1) x y).2 (ix2 i q)
        = y (ix2 i (rank (fun j => x (ix2 i j)) q)) := by
  have hcmp : ∀ u v : EReal,
      (FloatOps.cmpfTotal (F := Ideal) (φ := .f32) .gt u v == 1#1) = decide (v < u) := fun u v => by
    show (BitVec.ofBool (decide (v < u)) == 1#1) = _
    cases decide (v < u) <;> rfl
  have key : sortedFrom (fun k k' => FloatOps.cmpfTotal (F := Ideal) (φ := .f32) .gt
      (x (Shape.Idx.along (s := ⟨2, ![a, b]⟩) (ix2 i q) (1 : Fin 2) k))
      (x (Shape.Idx.along (s := ⟨2, ![a, b]⟩) (ix2 i q) (1 : Fin 2) k')) == 1#1) q = rank (fun j => x (ix2 i j)) q := by
    unfold rank
    congr 1
    funext k k'
    refine (hcmp _ _).trans ?_
    exact congr_arg₂ (fun u v : EReal => decide (u < v)) (congrArg x (along_one i q k')) (congrArg x (along_one i q k))
  constructor
  · refine Eq.trans ?_ (congrArg x (along_one i q _))
    rw [← key]
    rfl
  · refine Eq.trans ?_ (congrArg y (along_one i q _))
    rw [← key]
    rfl

/-- The first columns of an array, at an entry. -/
theorem slice_eq {α : Type} {a b K : Nat} (x : (⟨2, ![a, b]⟩ : Shape).Idx → α)
    (h : (⟨2, ![a, b]⟩ : Shape).Slices (fun _ => 0) ⟨2, ![a, K]⟩) (hK : K ≤ b) (i : Fin a) (q : Fin K) :
    extractStridedSlice ⟨2, ![a, K]⟩ (fun _ => 0) x h (ix2 i q) = x (ix2 i ⟨q.val, q.isLt.trans_le hK⟩) := by
  unfold extractStridedSlice
  congr 1
  funext d
  match d with
  | ⟨0, _⟩ => exact Fin.ext (Nat.zero_add _)
  | ⟨1, _⟩ => exact Fin.ext (Nat.zero_add _)

/-- The values of a top-`K`. -/
theorem topK_values {a b K : Nat} (x : (⟨2, ![a, b]⟩ : Shape).Idx → EReal)
    (h : (⟨2, ![a, b]⟩ : Shape).Slices (fun _ => 0) ⟨2, ![a, K]⟩) (hK : K ≤ b) (i : Fin a) (q : Fin K) :
    (Host.topK ⟨2, ![a, K]⟩ 1 (FloatOps.cmpfTotal (F := Ideal) (φ := .f32) .gt) x h).1 (ix2 i q)
      = x (ix2 i (rank (fun j => x (ix2 i j)) ⟨q.val, q.isLt.trans_le hK⟩)) :=
  (slice_eq _ h hK i q).trans (sort2_eq x (fun j => BitVec.ofNat 32 (j 1).val) i _).1

/-- The indices of a top-`K`. -/
theorem topK_indices {a b K : Nat} (x : (⟨2, ![a, b]⟩ : Shape).Idx → EReal)
    (h : (⟨2, ![a, b]⟩ : Shape).Slices (fun _ => 0) ⟨2, ![a, K]⟩) (hK : K ≤ b) (i : Fin a) (q : Fin K) :
    (Host.topK ⟨2, ![a, K]⟩ 1 (FloatOps.cmpfTotal (F := Ideal) (φ := .f32) .gt) x h).2 (ix2 i q)
      = BitVec.ofNat 32 (rank (fun j => x (ix2 i j)) ⟨q.val, q.isLt.trans_le hK⟩).val :=
  (slice_eq _ h hK i q).trans (sort2_eq x (fun j => BitVec.ofNat 32 (j 1).val) i _).2

end Cert.Rank

end
-- ==== Proof.Output.lean ====
/-
  The kernel's output array, read at an entry as a function of the arguments.
-/
module

public import proofs.«01_k».proof.Proof.Gen.KernelIdeal.Value
public import proofs.«01_k».proof.Proof.Block
public import proofs.«01_k».proof.Proof.Host
public import Idealize.ShloMosaic.Lib.Pipeline.ValueKit

@[expose] public section

noncomputable section

namespace Cert.Output

open Idealize.ShloMosaic Idealize.ShloMosaic.TcCoe Idealize.SL.Sem Cert.KernelIdeal Cert.KernelIdeal.Gen Cert.HostRead Cert.Block

variable (m : (ℓ : Loc nD τ sig) → Buf (Elt Ideal) ℓ) (c : Dev nD)

/-- Which block each window holds at a grid point. -/
theorem idx : ∀ t : Fin cfg0.N, win0_0.index t = ![t.val, 0] ∧ win0_1.index t = ![t.val / 4, 0] ∧ win0_2.index t = ![0, t.val / 4]
    ∧ win0_3.index t = ![0, 0] ∧ win0_4.index t = ![0, 0] ∧ win0_5.index t = ![0, 0] ∧ win0_6.index t = ![0, 0]
    ∧ win0_7.index t = ![t.val, 0] ∧ (grid0.coords t 0).val = t.val :=
  (by decide +kernel : ∀ t : Fin grid0.N, win0_0.index t = ![t.val, 0] ∧ win0_1.index t = ![t.val / 4, 0]
    ∧ win0_2.index t = ![0, t.val / 4] ∧ win0_3.index t = ![0, 0] ∧ win0_4.index t = ![0, 0] ∧ win0_5.index t = ![0, 0]
    ∧ win0_6.index t = ![0, 0] ∧ win0_7.index t = ![t.val, 0] ∧ (grid0.coords t 0).val = t.val)

/-- Column `l` of the half that row `R` lies in. -/
def col (R : Fin 8192) (l : Fin 4096) : Fin 8192 := ⟨R.val / 4096 * 4096 + l.val, by omega⟩

/-- There are eight grid points. -/
theorem lt8 (t : Fin cfg0.N) : t.val < 8 := t.isLt

/-- The row block at an entry. -/
theorem read0 (t : Fin cfg0.N) (r : Fin 1024) (k : Fin 64) :
    (iblk m c 0 t : S1024x64.Idx → EReal) (ix2 r k)
      = pts (m ((c.tc : Thread nD τ).loc main_arg0)) ⟨t.val * 1024 + r.val, by have := lt8 t; omega⟩ k := by
  rw [← V_v1]
  blk_ext [iblk, idx t]

/-- The column block at an entry. -/
theorem read1 (t : Fin cfg0.N) (j : Fin 4096) (k : Fin 64) :
    (iblk m c 1 t : S4096x64.Idx → EReal) (ix2 j k)
      = pts (m ((c.tc : Thread nD τ).loc main_arg0)) ⟨t.val / 4 * 4096 + j.val, by have := lt8 t; omega⟩ k := by
  rw [← V_v1]
  blk_ext [iblk, idx t]

/-- The batch numbers of the columns. -/
theorem read2 (t : Fin cfg0.N) (j : Fin 4096) :
    (iblk m c 2 t : S1x4096.Idx → EReal) (ix2 0 j)
      = (Batch.batch ⟨t.val / 4 * 4096 + j.val, by have := lt8 t; omega⟩ : EReal) := by
  rw [← V_v4 m c]
  blk_ext [iblk, idx t]

/-- The first eight rows. -/
theorem read3 (t : Fin cfg0.N) (q : Fin 8) (k : Fin 64) :
    (iblk m c 3 t : S8x64.Idx → EReal) (ix2 q k)
      = pts (m ((c.tc : Thread nD τ).loc main_arg0)) ⟨q.val, by omega⟩ k := by
  rw [← V_v5]
  blk_ext [iblk, idx t]

/-- The weight of the mean. -/
theorem read4 (t : Fin cfg0.N) (k e : Fin 64) :
    (iblk m c 4 t : S64x64.Idx → EReal) (ix2 k e) = (m ((c.tc : Thread nD τ).loc main_arg1) : S64x64.Idx → EReal) (ix2 k e) := by
  rw [← V_main_arg1 m c]
  blk_ext [iblk, idx t]

/-- The weight of the row itself. -/
theorem read5 (t : Fin cfg0.N) (k e : Fin 64) :
    (iblk m c 5 t : S64x64.Idx → EReal) (ix2 k e) = (m ((c.tc : Thread nD τ).loc main_arg2) : S64x64.Idx → EReal) (ix2 k e) := by
  rw [← V_main_arg2 m c]
  blk_ext [iblk, idx t]

/-- The bias. -/
theorem read6 (t : Fin cfg0.N) (e : Fin 64) :
    (iblk m c 6 t : S1x64.Idx → EReal) (ix2 0 e) = (m ((c.tc : Thread nD τ).loc main_arg3) : S64.Idx → EReal) (ix1 e) := by
  rw [← V_v6 m c]
  blk_ext [iblk, idx t]

/-- The distance the kernel gives column `j` against row `R`. -/
def kdist (P : Fin 8192 → Fin 64 → EReal) (R j : Fin 8192) : EReal :=
  if (Batch.batch j : EReal) = Ideal.ofBits .f32 0x40000000#32 then Ideal.ofBits .f32 0x7F7FFFFF#32
  else ((∑ k, P R k * P R k) + ∑ k, P j k * P j k) + ∑ k, Ideal.ofBits .f32 0xC0000000#32 * P R k * P j k

/-- The sum of the kernel's nine neighbours of row `R`. -/
def kagg (P : Fin 8192 → Fin 64 → EReal) (R : Fin 8192) (k : Fin 64) : EReal :=
  if R.val = 8191 then (∑ q : Fin 8, P ⟨q.val, by omega⟩ k) + P ⟨8191, by omega⟩ k
  else ∑ j : Fin 4096, weight (Sel (fun l : Fin 4096 => if l.val = R.val % 4096 then ⊤ else kdist P R (col R l)) j) * P (col R j) k

/-- The output from the sums of the neighbours. -/
def outOf (agg P : Fin 8192 → Fin 64 → EReal) (a1 a2 : S64x64.Idx → EReal) (a3 : S64.Idx → EReal) (R : Fin 8192) (e : Fin 64) : EReal :=
  ((∑ k : Fin 64, Ideal.div (agg R k) (Ideal.ofBits .f32 0x41100000#32) * a1 (ix2 k e)) + a3 (ix1 e)) + ∑ k : Fin 64, P R k * a2 (ix2 k e)

/-- What grid point `t` writes in its row `r`, which is row `R` of the array. -/
theorem at_point (t : Fin cfg0.N) (r : Fin 1024) (e : Fin 64) (R : Fin 8192) (hR : R.val = t.val * 1024 + r.val) :
    out0_7 (grid0.coords t) (iblk m c 0 t) (iblk m c 1 t) (iblk m c 2 t) (iblk m c 3 t) (iblk m c 4 t) (iblk m c 5 t) (iblk m c 6 t) (ix2 r e)
      = outOf (kagg (pts (m ((c.tc : Thread nD τ).loc main_arg0)))) (pts (m ((c.tc : Thread nD τ).loc main_arg0)))
          (m ((c.tc : Thread nD τ).loc main_arg1)) (m ((c.tc : Thread nD τ).loc main_arg2)) (m ((c.tc : Thread nD τ).loc main_arg3)) R e := by
  have h8 := lt8 t
  have hr := r.isLt
  have hc : (grid0.coords t 0).val = t.val := (idx t).2.2.2.2.2.2.2.2
  have hRR : (⟨t.val * 1024 + r.val, by omega⟩ : Fin 8192) = R := Fin.ext hR.symm
  have hcol : ∀ j : Fin 4096, (⟨t.val / 4 * 4096 + j.val, by omega⟩ : Fin 8192) = col R j := fun j =>
    Fin.ext (by show t.val / 4 * 4096 + j.val = R.val / 4096 * 4096 + j.val; omega)
  have hmod : t.val % 4 * 1024 + r.val = R.val % 4096 := by omega
  have hd : ∀ l, Block.dist (iblk m c 0 t) (iblk m c 1 t) (iblk m c 2 t) r l
      = kdist (pts (m ((c.tc : Thread nD τ).loc main_arg0))) R (col R l) := fun l => by
    unfold Block.dist kdist
    simp only [read0, read1, read2, hRR, hcol]
  refine (out_apply (grid0.coords t) _ _ _ _ _ _ _ r e).trans ?_
  rw [hc, ← hR]
  simp only [hd, read0, read1, read3, read4, read5, read6, hRR, hcol, hmod]
  unfold outOf kagg
  by_cases h : R.val = 8191
  · have h1023 : (⟨t.val * 1024 + (1023 : Fin 1024).val, by have : (1023 : Fin 1024).val = 1023 := rfl; omega⟩ : Fin 8192) = ⟨8191, by omega⟩ :=
      Fin.ext (by show t.val * 1024 + 1023 = 8191; omega)
    simp only [if_pos h, h1023]
  · simp only [if_neg h]

/-- THE KERNEL'S OUTPUT at row `R`, column `e`. -/
theorem output (R : Fin 8192) (e : Fin 64) :
    ((dats m 0 c).arrAt 7 cfg0.N : S8192x64.Idx → EReal) (ix2 R e)
      = outOf (kagg (pts (m ((c.tc : Thread nD τ).loc main_arg0)))) (pts (m ((c.tc : Thread nD τ).loc main_arg0)))
          (m ((c.tc : Thread nD τ).loc main_arg1)) (m ((c.tc : Thread nD τ).loc main_arg2)) (m ((c.tc : Thread nD τ).loc main_arg3)) R e := by
  have hR := R.isLt
  let t : Fin cfg0.N := ⟨R.val / 1024, show R.val / 1024 < 8 by omega⟩
  have ht : t.val = R.val / 1024 := rfl
  let r : Fin 1024 := ⟨R.val % 1024, by omega⟩
  have hr : r.val = R.val % 1024 := rfl
  rw [← at_point m c t r e R (by omega)]
  have h := congrFun (Value.blocks7 m c t (flush0_7 t)) (ix2 r e)
  rw [Value.flushed7] at h
  refine Eq.trans ?_ h
  clear_value t r
  blk_ext [idx t]

end Cert.Output

end
-- ==== Proof.RefEdges.lean ====
/-
  The reference's edges: where each comes from, where it goes, and what it carries.
-/
module

public import proofs.«01_k».proof.Proof.RefKey
public import proofs.«01_k».proof.Proof.Rank
public import proofs.«01_k».proof.Proof.Output
public import Idealize.ShloMosaic.Lib.Pointwise
public import Idealize.ShloMosaic.Lib.StableHlo.Predicate
public import Idealize.ShloMosaic.Lib.Routing.OpsPair
public import Idealize.ShloMosaic.Lib.Routing.Ops

@[expose] public section

noncomputable section

namespace Cert.RefEdges

open Idealize.ShloMosaic Cert.ReferenceIdeal Cert.ReferenceIdeal.Read Cert.HostRead Cert.RefKey

variable (x : S2x64x64x64.Idx → EReal)

/-- The `q`-th neighbour of row `i`. -/
def near (P : Fin 8192 → Fin 64 → EReal) (i : Fin 8192) (q : Fin 9) : Fin 8192 :=
  Rank.rank (key P i) ⟨q.val, by omega⟩

/-- The indices of the nine nearest are the first nine of the rank. -/
theorem indices_apply (i : Fin 8192) (q : Fin 9) :
    (val_main_indices (F := Ideal) x : S8192x9.Idx → BitVec 32) (ix2 i q) = BitVec.ofNat 32 (near (pts x) i q).val := by
  unfold val_main_indices near
  refine (Rank.topK_indices (val_main_v23 (F := Ideal) x) _ (by omega) i q).trans ?_
  simp only [v23_apply]

/-- Where edge `e` comes from. -/
def src (P : Fin 8192 → Fin 64 → EReal) (e : Fin 73728) : Fin 8192 := near P ⟨e.val / 9, by omega⟩ ⟨e.val % 9, by omega⟩

/-- Where an edge lands: its number over nine. -/
theorem v30_apply (e : Fin 73728) : (val_main_v30 (F := Ideal) : S73728x1.Idx → BitVec 32) (ix2 e 0) = BitVec.ofNat 32 (e.val / 9) := by
  pointwise [val_main_v30, val_main_v27, val_main_v26, val_main_v25]

/-- The same, for the count of the edges. -/
theorem v34_apply (e : Fin 73728) : (val_main_v34 (F := Ideal) : S73728x1.Idx → BitVec 32) (ix2 e 0) = BitVec.ofNat 32 (e.val / 9) := by
  pointwise [val_main_v34, val_main_v27, val_main_v26, val_main_v25]

/-- A row number is not negative, so it isn't wrapped. -/
theorem wrap (n : Fin 8192) (a : BitVec 32) :
    Scalar.select (IntOp.cmpi .slt (BitVec.ofNat 32 n.val) 0#32) a (BitVec.ofNat 32 n.val) = BitVec.ofNat 32 n.val :=
  Routing.wrap_of_lt _ _ (by have := n.isLt; rw [BitVec.toNat_ofNat]; omega)

/-- Where an edge starts: a row number, which the wrap of negative numbers leaves as it is. -/
theorem v5_apply (e : Fin 73728) : (val_main_call2_v5 (F := Ideal) x : S73728x1.Idx → BitVec 32) (ix2 e 0)
    = BitVec.ofNat 32 (src (pts x) e).val := by
  pointwise [val_main_call2_v5, val_main_call2_v4, val_main_call2_v3, val_main_call2_v2, val_main_call2_c_0, val_main_call2_v1, val_main_call2_v0, val_main_call2_c, val_main_v24]
  rw [indices_apply]
  exact wrap _ _

/-- Every row number is within the table. -/
theorem v11_apply (e : Fin 73728) : (val_main_call2_v11 (F := Ideal) x : S73728x1.Idx → BitVec 1) (ix2 e 0) = 1#1 := by
  pointwise [val_main_call2_v11, val_main_call2_v10, val_main_call2_v9, val_main_call2_v8, val_main_call2_v7, val_main_call2_v6, val_main_call2_c_2, val_main_call2_c_1]
  rw [v5_apply]
  have h := (src (pts x) e).isLt
  have h1 := (WordCmp.cmpi_sge_ofNat_eq_one_iff (w := 32) (a := (src (pts x) e).val) (b := 0) (by omega) (by omega)).mpr (by omega)
  have h2 := (WordCmp.cmpi_sle_ofNat_eq_one_iff (w := 32) (a := (src (pts x) e).val) (b := 8191) (by omega) (by omega)).mpr (by omega)
  exact congr_arg₂ IntOp.andi h1 h2

/-- Every start of an edge is in range. -/
theorem v12_apply (e : Fin 73728) : (val_main_call2_v12 (F := Ideal) x : S73728.Idx → BitVec 1) (ix1 e) = 1#1 := by
  pointwise [val_main_call2_v12, val_main_call2_c_3]
  rw [Finset.fold_congr (g := fun _ : Fin 1 => 1#1) fun k _ => by
    obtain rfl : k = 0 := Subsingleton.elim _ _
    exact v11_apply x e]
  rfl

/-- What an edge carries: the row it comes from. -/
theorem v28_apply (e : Fin 73728) (k : Fin 64) : (val_main_v28 (F := Ideal) x : S73728x64.Idx → EReal) (ix2 e k) = pts x (src (pts x) e) k := by
  pointwise [val_main_v28, val_main_call2_v14, val_main_call2_v15, val_main_call2_cst, val_main_call2_v13]
  rw [v12_apply]
  refine Eq.trans ?_ (v1_apply x _ k)
  exact Routing.gather_row (nb := 8192) (B := 64) (n := 73728) gather_S8192x64_S73728x1_S73728x64_1_0_n_n_0_1_164 rfl rfl rfl rfl rfl
    (val_main_v1 (F := Ideal) x) (val_main_call2_v5 (F := Ideal) x) e k (src (pts x) e) (v5_apply x e) (by omega)

/-! ## Where an edge's row lands -/

/-- The row where an update of the sum starts is the number its edge holds. -/
theorem start_rows (e : Fin 73728) (k : Fin 64) (idx : IVec S73728x1 32) :
    scatter_S8192x64_S73728x1_S73728x64_1_0_0_1.start (ix2 e k) idx 0 = (idx (ix2 e 0)).toInt := by
  unfold ScatterDims.start
  rw [dif_pos (by decide)]
  congr 2
  funext b
  match b with
  | ⟨0, _⟩ => rfl
  | ⟨1, _⟩ => rfl

/-- An update of the sum lands at an entry exactly if its edge holds that row and it is of that column. -/
theorem lands_rows (e : Fin 73728) (k : Fin 64) (idx : IVec S73728x1 32) (i : Fin 8192) (y : Fin 64) :
    scatter_S8192x64_S73728x1_S73728x64_1_0_0_1.resultIdx? (ix2 e k) idx = some (ix2 i y) ↔ (idx (ix2 e 0)).toInt = i.val ∧ k = y := by
  refine (Routing.resultIdx?_ix2 (R := 8192) (C := 64) scatter_S8192x64_S73728x1_S73728x64_1_0_0_1 (ix2 e k) idx i y).trans ?_
  rw [start_rows]
  have h1 : scatter_S8192x64_S73728x1_S73728x64_1_0_0_1.start (ix2 e k) idx 1 = 0 := rfl
  have h2 : scatter_S8192x64_S73728x1_S73728x64_1_0_0_1.window (ix2 e k) 0 = 0 := rfl
  have h3 : scatter_S8192x64_S73728x1_S73728x64_1_0_0_1.window (ix2 e k) 1 = k.val := rfl
  rw [h1, h2, h3, Fin.ext_iff]
  omega

/-- The row where an update of the count starts is the number its edge holds. -/
theorem start_count (e : Fin 73728) (idx : IVec S73728x1 32) :
    scatter_S8192_S73728x1_S73728_n_0_0_1.start (ix1 e) idx 0 = (idx (ix2 e 0)).toInt := by
  unfold ScatterDims.start
  rw [dif_pos (by decide)]
  congr 2
  funext b
  match b with
  | ⟨0, _⟩ => rfl
  | ⟨1, _⟩ => rfl

/-- An update of the count lands in a row exactly if its edge holds that row. -/
theorem lands_count (e : Fin 73728) (idx : IVec S73728x1 32) (i : Fin 8192) :
    scatter_S8192_S73728x1_S73728_n_0_0_1.resultIdx? (ix1 e) idx = some (ix1 i) ↔ (idx (ix2 e 0)).toInt = i.val := by
  refine (Routing.resultIdx?_ix1 (N := 8192) scatter_S8192_S73728x1_S73728_n_0_0_1 (ix1 e) idx i).trans ?_
  rw [start_count]
  have h2 : scatter_S8192_S73728x1_S73728_n_0_0_1.window (ix1 e) 0 = 0 := rfl
  rw [h2]
  omega

/-- The edges into row `i`. -/
def edge (i : Fin 8192) (q : Fin 9) : Fin 73728 := ⟨i.val * 9 + q.val, by omega⟩

/-- The edges that land in row `i` are its nine. -/
theorem toInt_dst (e : Fin 73728) (i : Fin 8192) : (BitVec.ofNat 32 (e.val / 9)).toInt = i.val ↔ ∃ q, edge i q = e := by
  rw [WordCmp.toInt_ofNat_of_lt (by omega)]
  constructor
  · intro h
    exact ⟨⟨e.val % 9, by omega⟩, Fin.ext (by show i.val * 9 + e.val % 9 = e.val; omega)⟩
  · rintro ⟨q, rfl⟩
    show (((i.val * 9 + q.val) / 9 : Nat) : Int) = i.val
    omega

/-- The `q`-th edge of row `i` starts at its `q`-th neighbour. -/
theorem src_edge (P : Fin 8192 → Fin 64 → EReal) (i : Fin 8192) (q : Fin 9) : src P (edge i q) = near P i q := by
  unfold src
  congr 1
  · exact Fin.ext (by show (i.val * 9 + q.val) / 9 = i.val; omega)
  · exact Fin.ext (by show (i.val * 9 + q.val) % 9 = q.val; omega)

/-- Two of the nine are two edges. -/
theorem edge_injective (i : Fin 8192) : Function.Injective (edge i) := fun q q' h => by
  have := congrArg Fin.val h
  exact Fin.ext (by change i.val * 9 + q.val = i.val * 9 + q'.val at this; omega)

/-- THE SUM OF THE NEIGHBOURS: what the scatter of the rows leaves at row `i`. -/
theorem v31_apply (i : Fin 8192) (k : Fin 64) :
    (val_main_v31 (F := Ideal) x : S8192x64.Idx → EReal) (ix2 i k) = ∑ q : Fin 9, pts x (near (pts x) i q) k := by
  have hz : (val_main_v29 (F := Ideal) : S8192x64.Idx → EReal) (ix2 i k) = 0 := by
    pointwise [val_main_v29, val_main_cst_4]
  show (val_main_v29 (F := Ideal) : S8192x64.Idx → EReal) (ix2 i k) + ∑ j ∈ Finset.univ.filter (fun j => scatter_S8192x64_S73728x1_S73728x64_1_0_0_1.resultIdx? j (val_main_v30 (F := Ideal)) = some (ix2 i k)),
    (val_main_v28 (F := Ideal) x : S73728x64.Idx → EReal) j = _
  rw [hz, zero_add]
  have hset : (Finset.univ.filter (fun j => scatter_S8192x64_S73728x1_S73728x64_1_0_0_1.resultIdx? j (val_main_v30 (F := Ideal)) = some (ix2 i k)))
      = Finset.univ.image (fun q : Fin 9 => (ix2 (edge i q) k : S73728x64.Idx)) := by
    ext j
    obtain ⟨e, y, rfl⟩ : ∃ (e : Fin 73728) (y : Fin 64), j = ix2 e y := ⟨j 0, j 1, by
      funext b
      match b with
      | ⟨0, _⟩ => rfl
      | ⟨1, _⟩ => rfl⟩
    simp only [Finset.mem_filter, Finset.mem_univ, true_and, Finset.mem_image]
    rw [lands_rows, v30_apply, toInt_dst]
    constructor
    · rintro ⟨⟨q, rfl⟩, rfl⟩
      exact ⟨q, rfl⟩
    · rintro ⟨q, h⟩
      have h0 : edge i q = e := congrFun h 0
      have h1 : k = y := congrFun h 1
      exact ⟨⟨q, h0⟩, h1.symm⟩
  rw [hset, Finset.sum_image fun q _ q' _ h => edge_injective i (congrFun h 0)]
  refine Finset.sum_congr rfl fun q _ => ?_
  rw [v28_apply, src_edge]

/-- THE COUNT: nine edges into every row. -/
theorem v35_apply (i : Fin 8192) :
    (val_main_v35 (F := Ideal) : S8192.Idx → EReal) (ix1 i) = ((9 : ℝ) : EReal) := by
  have hz : (val_main_v33 (F := Ideal) : S8192.Idx → EReal) (ix1 i) = 0 := by
    pointwise [val_main_v33, val_main_cst_6]
  have ho : ∀ e, (val_main_v32 (F := Ideal) : S73728.Idx → EReal) (ix1 e) = 1 := fun e => by
    pointwise [val_main_v32, val_main_cst_5]
  show (val_main_v33 (F := Ideal) : S8192.Idx → EReal) (ix1 i) + ∑ j ∈ Finset.univ.filter (fun j => scatter_S8192_S73728x1_S73728_n_0_0_1.resultIdx? j (val_main_v34 (F := Ideal)) = some (ix1 i)),
    (val_main_v32 (F := Ideal) : S73728.Idx → EReal) j = _
  rw [hz, zero_add]
  have hset : (Finset.univ.filter (fun j => scatter_S8192_S73728x1_S73728_n_0_0_1.resultIdx? j (val_main_v34 (F := Ideal)) = some (ix1 i)))
      = Finset.univ.image (fun q : Fin 9 => (ix1 (edge i q) : S73728.Idx)) := by
    ext j
    obtain ⟨e, rfl⟩ : ∃ e : Fin 73728, j = ix1 e := ⟨j 0, by
      funext b
      match b with
      | ⟨0, _⟩ => rfl⟩
    simp only [Finset.mem_filter, Finset.mem_univ, true_and, Finset.mem_image]
    rw [lands_count, v34_apply, toInt_dst]
    constructor
    · rintro ⟨q, rfl⟩
      exact ⟨q, rfl⟩
    · rintro ⟨q, h⟩
      exact ⟨q, congrFun h 0⟩
  rw [hset, Finset.sum_image fun q _ q' _ h => edge_injective i (congrFun h 0)]
  simp only [ho]
  rw [Finset.sum_const, Finset.card_univ, Fintype.card_fin]
  norm_num
  rfl

/-- THE REFERENCE'S RESULT at row `i`, column `e`. -/
theorem v45_apply (x1 x2 : S64x64.Idx → EReal) (x3 : S64.Idx → EReal) (i : Fin 8192) (e : Fin 64) :
    (val_main_v45 (F := Ideal) x x1 x2 x3 : S8192x64.Idx → EReal) (ix2 i e)
      = Output.outOf (fun r k => ∑ q : Fin 9, pts x (near (pts x) r q) k) (pts x) x1 x2 x3 i e := by
  pointwise [val_main_v45, val_main_v44, val_main_v43, val_main_v42, val_main_v41, val_main_v40, val_main_v39, val_main_v38, val_main_v37, val_main_v36, val_main_call3_v1, val_main_call3_v0, val_main_cst_7]
  have hnine : max (id (constant (F := Ideal) S_ .f32 0x3F800000#32) ix0 : EReal) (val_main_v35 (F := Ideal) (ix1 i)) = Ideal.ofBits .f32 0x41100000#32 := by
    have h1 : (id (constant (F := Ideal) S_ .f32 0x3F800000#32) ix0 : EReal) = ((1 : ℝ) : EReal) := by
      show Ideal.ofBits .f32 0x3F800000#32 = _
      simp [Ideal.ofBits, Ideal.ieee, -EReal.coe_mul]
      norm_num
    rw [h1, v35_apply, Batch.ofBits_nine]
    exact max_eq_right (EReal.coe_le_coe_iff.mpr (by norm_num))
  rw [hnine]
  simp only [v31_apply, v1_apply]
  rfl

end Cert.RefEdges

end
-- ==== Proof.Neighbours.lean ====
/-
  The neighbours: under the precondition the columns the kernel selects are those the reference ranks first.
-/
module

public import proofs.«01_k».proof.Proof.RefEdges

@[expose] public section

noncomputable section

namespace Cert.Neighbours

open Idealize.ShloMosaic Cert.RefKey Cert.RefEdges Cert.Rank Cert.Output Cert.Block Cert.Batch

variable {P : Fin 8192 → Fin 64 → EReal} {X : Fin 8192 → Fin 64 → ℝ}

/-! ## Distances of finite points -/

/-- The squared distance of two rows of real numbers. -/
def sqd (X : Fin 8192 → Fin 64 → ℝ) (i j : Fin 8192) : ℝ := ∑ k, (X i k - X j k) ^ 2

/-- A squared distance is at least zero. -/
theorem sqd_nonneg (i j : Fin 8192) : 0 ≤ sqd X i j := Finset.sum_nonneg fun _ _ => sq_nonneg _

/-- A row is at distance zero from itself. -/
theorem sqd_self (i : Fin 8192) : sqd X i i = 0 := by simp [sqd]

/-- A square is at least zero, of an infinite value too. -/
theorem square_nonneg (v : EReal) : 0 ≤ v * v := by
  induction v using EReal.rec with
  | bot => rw [EReal.bot_mul_bot]; exact le_top
  | coe r => rw [← EReal.coe_mul]; exact EReal.coe_nonneg.mpr (mul_self_nonneg r)
  | top => rw [EReal.top_mul_top]; exact le_top

/-- A sum of real numbers, read in the extended reals. -/
theorem coe_sum {n : Nat} (f : Fin n → ℝ) : ((∑ k, f k : ℝ) : EReal) = ∑ k, (f k : EReal) :=
  map_sum (⟨⟨Real.toEReal, EReal.coe_zero⟩, EReal.coe_add⟩ : ℝ →+ EReal) f Finset.univ

/-- The reference's expanded distance is the squared distance, but for row and column 8191. -/
theorem rdist_eq (hP : ∀ i : Fin 8192, i.val < 8191 → ∀ k, P i k = (X i k : EReal)) (i j : Fin 8192) (hi : i.val < 8191) (hj : j.val < 8191) :
    rdist P i j = (sqd X i j : EReal) := by
  unfold rdist sqd
  simp only [hP i hi, hP j hj, ofBits_two, ← EReal.coe_mul, ← coe_sum, ← EReal.coe_add, ← EReal.coe_sub]
  congr 1
  rw [Finset.mul_sum, ← Finset.sum_add_distrib, ← Finset.sum_sub_distrib]
  exact Finset.sum_congr rfl fun k _ => by ring

/-- The kernel's distance is the squared distance, but for column 8191. -/
theorem kdist_eq (hP : ∀ i : Fin 8192, i.val < 8191 → ∀ k, P i k = (X i k : EReal)) (i j : Fin 8192) (hi : i.val < 8191) :
    kdist P i j = if j.val = 8191 then (fmax : EReal) else (sqd X i j : EReal) := by
  unfold kdist
  rw [ofBits_two, ofBits_neg_two, ofBits_fmax]
  have hb : ((batch j : EReal) = ((2 : ℝ) : EReal)) ↔ j.val = 8191 := by
    rw [EReal.coe_eq_coe_iff]
    unfold batch
    have := j.isLt
    split_ifs <;> simp <;> omega
  by_cases h : j.val = 8191
  · rw [if_pos (hb.mpr h), if_pos h]
  · rw [if_neg fun e => h (hb.mp e), if_neg h]
    have hj : j.val < 8191 := by have := j.isLt; omega
    unfold sqd
    simp only [hP i hi, hP j hj, ← EReal.coe_mul, ← coe_sum, ← EReal.coe_add]
    congr 1
    rw [← Finset.sum_add_distrib, ← Finset.sum_add_distrib]
    exact Finset.sum_congr rfl fun k _ => by ring

/-! ## The rank of the keys -/

/-- What the precondition says of the keys, for every row but the last: the second to the tenth are strictly decreasing, and
    in the second half the ninth is above the largest finite value negated. -/
def Distinct (P : Fin 8192 → Fin 64 → EReal) : Prop := ∀ i : Fin 8192, i.val < 8191 →
  (∀ q : Fin 8, key P i (rank (key P i) ⟨q.val + 2, by omega⟩) < key P i (rank (key P i) ⟨q.val + 1, by omega⟩))
    ∧ (4096 ≤ i.val → ((-fmax : ℝ) : EReal) < key P i (rank (key P i) ⟨8, by omega⟩))

/-- If the row has an infinite coordinate, every key is infinite. -/
theorem key_infinite (i : Fin 8192) (k : Fin 64) (h : P i k = ⊤ ∨ P i k = ⊥) (j : Fin 8192) :
    key P i j = ⊤ ∨ key P i j = ⊥ := by
  have hpos : ∀ (r : Fin 8192) (l : Fin 64), 0 ≤ P r l * P r l := fun r l => square_nonneg _
  have h1 : P i k * P i k = ⊤ := by
    rcases h with h | h <;> rw [h]
    · exact EReal.top_mul_top
    · exact EReal.bot_mul_bot
  have h2 : ∑ l, P i l * P i l = ⊤ :=
    top_le_iff.mp (h1 ▸ Finset.single_le_sum (f := fun l => P i l * P i l) (fun l _ => hpos i l) (Finset.mem_univ k))
  have h3 : (0 : EReal) ≤ ∑ l, P j l * P j l := Finset.sum_nonneg fun l _ => hpos j l
  have h4 : (⊤ : EReal) + ∑ l, P j l * P j l = ⊤ := EReal.top_add_of_ne_bot (ne_of_gt (EReal.bot_lt_zero.trans_le h3))
  unfold key rdist
  rw [h2, h4]
  split_ifs
  · generalize Ideal.ofBits .f32 0x40000000#32 * ∑ k, P i k * P j k = v
    induction v using EReal.rec with
    | bot => right; rfl
    | coe r => right; rw [EReal.top_sub_coe]; rfl
    | top => left; rfl
  · right; rfl

/-- So under the precondition every coordinate of the row is a real number. -/
theorem finite (hD : Distinct P) (i : Fin 8192) (hi : i.val < 8191) (k : Fin 64) : P i k = ((P i k).toReal : EReal) := by
  refine (EReal.coe_toReal ?_ ?_).symm
  all_goals
    intro h
    have h1 := (hD i hi).1 0
    have h2 := (hD i hi).1 1
    have hs : (⟨(0 : Fin 8).val + 2, by omega⟩ : Fin 8192) = ⟨(1 : Fin 8).val + 1, by omega⟩ := rfl
    rw [hs] at h1
    rcases key_infinite i k (by first | exact .inl h | exact .inr h) (rank (key P i) ⟨(1 : Fin 8).val + 1, by omega⟩) with e | e
    · rw [e] at h1
      exact not_top_lt h1
    · rw [e] at h2
      exact not_lt_bot h2

/-- The distance the reference ranks: plus infinity across batches. -/
def gap (X : Fin 8192 → Fin 64 → ℝ) (i j : Fin 8192) : EReal := if batch i = batch j then (sqd X i j : EReal) else ⊤

/-- Before the last row, rows of the same batch are those of the same half but the last. -/
theorem batch_eq_iff (i j : Fin 8192) (hi : i.val < 8191) :
    batch i = batch j ↔ i.val / 4096 = j.val / 4096 ∧ j.val ≠ 8191 := by
  unfold batch
  have := j.isLt
  split_ifs <;> simp <;> omega

/-- Before the last row the reference ranks the negated gaps. -/
theorem key_eq (hP : ∀ i : Fin 8192, i.val < 8191 → ∀ k, P i k = (X i k : EReal)) (i j : Fin 8192) (hi : i.val < 8191) :
    key P i j = -gap X i j := by
  unfold key gap
  by_cases h : batch i = batch j
  · have := j.isLt
    rw [if_pos h, if_pos h, rdist_eq hP i j hi (by have := (batch_eq_iff i j hi).mp h; omega)]
  · rw [if_neg h, if_neg h]

/-- A gap is at least zero. -/
theorem gap_nonneg (i j : Fin 8192) : 0 ≤ gap X i j := by
  unfold gap
  split_ifs
  · exact EReal.coe_nonneg.mpr (sqd_nonneg i j)
  · exact le_top

/-- The gap of a row to itself is zero. -/
theorem gap_self (i : Fin 8192) : gap X i i = 0 := by
  unfold gap
  rw [if_pos rfl, sqd_self, EReal.coe_zero]

/-- The position of a neighbour in its half. -/
def loc (P : Fin 8192 → Fin 64 → EReal) (i : Fin 8192) (q : Fin 9) : Fin 4096 := ⟨(near P i q).val % 4096, by omega⟩

section Row

variable (hP : ∀ i : Fin 8192, i.val < 8191 → ∀ k, P i k = (X i k : EReal)) (hD : Distinct P) (i : Fin 8192) (hi : i.val < 8191)

include hP hi in
/-- The gaps grow along the rank. -/
theorem gap_mono {a b : Fin 8192} (h : a ≤ b) : gap X i (rank (key P i) a) ≤ gap X i (rank (key P i) b) := by
  have := rank_anti (key P i) h
  rw [key_eq hP _ _ hi, key_eq hP _ _ hi] at this
  exact EReal.neg_le_neg_iff.mp this

include hP hD hi in
/-- From the second to the tenth they grow strictly. -/
theorem gap_step (q : Nat) (hq : q < 8) :
    gap X i (rank (key P i) ⟨q + 1, by omega⟩) < gap X i (rank (key P i) ⟨q + 2, by omega⟩) := by
  have := (hD i hi).1 ⟨q, hq⟩
  rw [key_eq hP _ _ hi, key_eq hP _ _ hi] at this
  exact EReal.neg_lt_neg_iff.mp this

include hP hD hi in
/-- The second to the tenth, any two. -/
theorem gap_lt {a b : Nat} (ha : 1 ≤ a) (hab : a < b) (hb : b < 10) :
    gap X i (rank (key P i) ⟨a, by omega⟩) < gap X i (rank (key P i) ⟨b, by omega⟩) := by
  have h := gap_step hP hD i hi (a - 1) (by omega)
  have ea : (⟨a - 1 + 1, by omega⟩ : Fin 8192) = ⟨a, by omega⟩ := Fin.ext (by show a - 1 + 1 = a; omega)
  rw [ea] at h
  exact h.trans_le (gap_mono hP i hi (Fin.mk_le_mk.mpr (by omega)))

include hP hD hi in
/-- The first nine are below infinity, so they lie in the row's batch. -/
theorem near_batch (q : Fin 9) : batch i = batch (near P i q) := by
  by_contra h
  have h1 := (gap_mono hP i hi (a := ⟨q.val, by omega⟩) (b := ⟨8, by omega⟩) (Fin.mk_le_mk.mpr (by omega))).trans_lt
    (gap_lt hP hD i hi (a := 8) (b := 9) (by omega) (by omega) (by omega))
  have h2 : gap X i (near P i q) = ⊤ := if_neg h
  exact not_top_lt (h2.symm.trans_lt h1)

include hP hD hi in
/-- In the second half they are below the largest finite value. -/
theorem gap_near_lt (h2 : 4096 ≤ i.val) (q : Fin 9) : gap X i (near P i q) < (fmax : EReal) := by
  have h := (hD i hi).2 h2
  rw [key_eq hP _ _ hi, EReal.coe_neg] at h
  exact (gap_mono hP i hi (Fin.mk_le_mk.mpr (by omega))).trans_lt (EReal.neg_lt_neg_iff.mp h)

include hP hD hi in
/-- The row itself comes first or second. -/
theorem self_near : ∃ u : Fin 9, u.val ≤ 1 ∧ near P i u = i := by
  obtain ⟨q, hq⟩ := rank_surjective (key P i) i
  have h : q.val < 2 := by
    by_contra h
    have h1 := gap_lt hP hD i hi (a := 1) (b := 2) (by omega) (by omega) (by omega)
    have h2 := gap_mono hP i hi (a := ⟨2, by omega⟩) (b := q) (Fin.le_def.mpr (by show 2 ≤ q.val; omega))
    rw [hq, gap_self] at h2
    exact absurd (h1.trans_le h2) (not_lt.mpr (gap_nonneg _ _))
  exact ⟨⟨q.val, by omega⟩, by show q.val ≤ 1; omega, hq⟩

include hP hD hi in
/-- The column at a neighbour's position is the neighbour. -/
theorem col_loc (q : Fin 9) : col i (loc P i q) = near P i q := by
  have h := ((batch_eq_iff i _ hi).mp (near_batch hP hD i hi q)).1
  exact Fin.ext (by show i.val / 4096 * 4096 + (near P i q).val % 4096 = (near P i q).val; omega)

include hP hD hi in
/-- Two neighbours have two positions. -/
theorem loc_injective : Function.Injective (loc P i) := fun q q' h => by
  have e : near P i q = near P i q' := by rw [← col_loc hP hD i hi, h, col_loc hP hD i hi]
  have := congrArg Fin.val (rank_injective _ e)
  exact Fin.ext this

include hP hi in
/-- In the row's half, below the last column, the kernel's distance is the gap. -/
theorem kdist_gap (j : Fin 8192) (h : batch i = batch j) (hj : j.val ≠ 8191) : kdist P i j = gap X i j := by
  rw [kdist_eq hP _ _ hi, if_neg hj]
  unfold gap
  rw [if_pos h]

/-- The other eight in their order, when the row itself comes at `u`. -/
def other (u : Fin 9) (k : Fin 8) : Fin 9 := if k = 0 then 1 - u else k.succ

/-- Each of the nine is the row itself or one of the others. -/
theorem other_all : ∀ u : Fin 9, u.val ≤ 1 → ∀ q : Fin 9, q = u ∨ ∃ k, other u k = q := by decide

/-- The row itself is none of the others. -/
theorem other_ne : ∀ u : Fin 9, u.val ≤ 1 → ∀ k, other u k ≠ u := by decide

/-- The others come in their order, and from the second on they are at rank two or later. -/
theorem other_mono : ∀ u : Fin 9, u.val ≤ 1 → ∀ k l, k < l → other u k < other u l ∧ 2 ≤ (other u l).val := by decide

/-- The last of the others is the ninth. -/
theorem other_last : ∀ u : Fin 9, other u 7 = 8 := by decide

include hP hD hi in
/-- THE SELECTION: what the kernel selects in row `i` is the first nine of the rank. -/
theorem selected (j : Fin 4096) :
    Sel (fun l : Fin 4096 => if l.val = i.val % 4096 then ⊤ else kdist P i (col i l)) j ↔ ∃ q, loc P i q = j := by
  obtain ⟨u, hu, hui⟩ := self_near hP hD i hi
  set f : Fin 4096 → EReal := fun l => if l.val = i.val % 4096 then ⊤ else kdist P i (col i l) with hf
  have hlu : (loc P i u).val = i.val % 4096 := by show (near P i u).val % 4096 = _; rw [hui]
  have hfu : f (loc P i u) = ⊤ := if_pos hlu
  have hfq : ∀ q, q ≠ u → f (loc P i q) = gap X i (near P i q) := fun q hq => by
    have hb := near_batch hP hD i hi q
    rw [hf]
    show (if (loc P i q).val = i.val % 4096 then ⊤ else kdist P i (col i (loc P i q))) = _
    rw [if_neg fun e => hq (loc_injective hP hD i hi (Fin.ext (e.trans hlu.symm))), col_loc hP hD i hi,
      kdist_gap hP i hi _ hb ((batch_eq_iff i _ hi).mp hb).2]
  have h7 : f (loc P i (other u 7)) = gap X i (near P i 8) := by
    rw [hfq _ (other_ne u hu 7), other_last]
  have hlt : gap X i (near P i 8) < ⊤ := by
    unfold gap
    rw [if_pos (near_batch hP hD i hi 8)]
    exact EReal.coe_lt_top _
  have hleast : Select.Least f fun k => loc P i (other u k) := by
    refine ⟨fun k l hkl => ?_, ?_, fun j hj => ?_⟩
    · rw [hfq _ (other_ne u hu k), hfq _ (other_ne u hu l)]
      obtain ⟨h1, h2⟩ := other_mono u hu k l hkl
      by_cases h0 : (other u k).val = 0
      · have ha := gap_mono hP i hi (a := ⟨(other u k).val, by omega⟩) (b := ⟨1, by omega⟩) (Fin.mk_le_mk.mpr (by omega))
        exact ha.trans_lt (gap_lt hP hD i hi (a := 1) (b := (other u l).val) (by omega) (by omega) (by omega))
      · exact gap_lt hP hD i hi (a := (other u k).val) (b := (other u l).val) (by omega) h1 (by omega)
    · rw [h7]
      exact hlt
    · rw [h7]
      by_cases hju : j = loc P i u
      · rw [hju, hfu]
        exact hlt
      · have hjn : ¬ j.val = i.val % 4096 := fun e => hju (Fin.ext (e.trans hlu.symm))
        show _ < (if j.val = i.val % 4096 then ⊤ else kdist P i (col i j))
        rw [if_neg hjn]
        by_cases hl : (col i j).val = 8191
        · rw [kdist_eq hP _ _ hi, if_pos hl]
          have : i.val / 4096 * 4096 + j.val = 8191 := hl
          have := j.isLt
          exact gap_near_lt hP hD i hi (by omega) 8
        · have hb : batch i = batch (col i j) := (batch_eq_iff i _ hi).mpr
            ⟨by have := j.isLt; show i.val / 4096 = (i.val / 4096 * 4096 + j.val) / 4096; omega, hl⟩
          rw [kdist_gap hP i hi _ hb hl]
          obtain ⟨q, hq⟩ := rank_surjective (key P i) (col i j)
          have h9 : 9 ≤ q.val := by
            by_contra h
            have hc : near P i ⟨q.val, by omega⟩ = col i j := hq
            have hlj : loc P i ⟨q.val, by omega⟩ = j := Fin.ext (by
              have := j.isLt
              show (near P i ⟨q.val, by omega⟩).val % 4096 = j.val
              rw [hc]
              show (i.val / 4096 * 4096 + j.val) % 4096 = j.val
              omega)
            rcases other_all u hu ⟨q.val, by omega⟩ with e | ⟨k, e⟩
            · rw [e] at hlj; exact hju hlj.symm
            · rw [← e] at hlj; exact hj k hlj
          have h8 := gap_lt hP hD i hi (a := 8) (b := 9) (by omega) (by omega) (by omega)
          rw [← hq]
          exact h8.trans_le (gap_mono hP i hi (Fin.le_def.mpr h9))
  have hfin : ∀ j, j ≠ loc P i u → f j < ⊤ := fun j hj => by
    show (if j.val = i.val % 4096 then ⊤ else kdist P i (col i j)) < ⊤
    rw [if_neg fun e => hj (Fin.ext (e.trans hlu.symm)), kdist_eq hP _ _ hi]
    split_ifs <;> exact EReal.coe_lt_top _
  refine (hleast.selected hfu hfin j).trans ?_
  constructor
  · rintro (rfl | ⟨k, rfl⟩)
    · exact ⟨u, rfl⟩
    · exact ⟨_, rfl⟩
  · rintro ⟨q, rfl⟩
    rcases other_all u hu q with rfl | ⟨k, rfl⟩
    · exact .inl rfl
    · exact .inr ⟨k, rfl⟩

include hP hD hi in
/-- Below the last row both programs add up the same nine rows. -/
theorem kagg_row (k : Fin 64) : kagg P i k = ∑ q : Fin 9, P (near P i q) k := by
  classical
  unfold kagg
  rw [if_neg (by omega)]
  simp only [selected hP hD i hi]
  have : ∀ j : Fin 4096, weight (∃ q, loc P i q = j) * P (col i j) k
      = if j ∈ Finset.univ.image (loc P i) then P (col i j) k else 0 := fun j => by
    unfold weight
    have hm : j ∈ Finset.univ.image (loc P i) ↔ ∃ q, loc P i q = j := by simp
    by_cases h : ∃ q, loc P i q = j
    · rw [if_pos h, if_pos (hm.mpr h), one_mul]
    · rw [if_neg h, if_neg fun h' => h (hm.mp h'), zero_mul]
  simp only [this]
  rw [Finset.sum_ite_mem, Finset.univ_inter, Finset.sum_image fun q _ q' _ h => loc_injective hP hD i hi h]
  exact Finset.sum_congr rfl fun q _ => by rw [col_loc hP hD i hi]

end Row

/-! ## The last row -/

/-- The key of a row to itself is above minus infinity, of an infinite row too. -/
theorem key_self (i : Fin 8192) : ⊥ < key P i i := by
  have h : (0 : EReal) ≤ ∑ k, P i k * P i k := Finset.sum_nonneg fun k _ => square_nonneg _
  unfold key rdist
  rw [if_pos rfl, ofBits_two]
  generalize ∑ k, P i k * P i k = v at h
  induction v using EReal.rec with
  | bot => exact absurd h (not_le.mpr EReal.bot_lt_zero)
  | coe r =>
    rw [← EReal.coe_add, ← EReal.coe_mul, ← EReal.coe_sub, ← EReal.coe_neg]
    exact EReal.bot_lt_coe _
  | top =>
    rw [EReal.coe_mul_top_of_pos (by norm_num)]
    exact bot_lt_top

/-- The last row is alone in its batch, so after itself its nearest are the first eight rows. -/
theorem kagg_last (P : Fin 8192 → Fin 64 → EReal) (i : Fin 8192) (hi : i.val = 8191) (k : Fin 64) :
    kagg P i k = ∑ q : Fin 9, P (near P i q) k := by
  have hlast : i = Fin.last 8191 := Fin.ext hi
  have hv : (⊥ : EReal) < key P i (Fin.last 8191) := by
    rw [← hlast]
    exact key_self i
  have hf : ∀ j : Fin 8191, key P i j.castSucc = ⊥ := fun j => by
    unfold key
    rw [if_neg, EReal.neg_top]
    unfold batch
    have := j.isLt
    have hj : j.castSucc.val = j.val := rfl
    rw [if_neg (by omega), if_neg (by omega)]
    split_ifs <;> norm_num
    omega
  unfold kagg
  rw [if_pos hi]
  have hs : ∑ q : Fin 9, P (near P i q) k = P (near P i 0) k + ∑ q : Fin 8, P (near P i q.succ) k := Fin.sum_univ_succ (n := 8) _
  refine Eq.trans ((add_comm _ _).trans (congr_arg₂ (· + ·) ?_ ?_)) hs.symm
  · have : near P i 0 = ⟨8191, by omega⟩ := rank_last_zero (n := 8191) (key P i) hv hf
    rw [this]
  · refine Finset.sum_congr rfl fun q _ => ?_
    have : near P i q.succ = ⟨q.val, by omega⟩ := rank_last_succ (n := 8191) (key P i) hv hf ⟨q.val, by omega⟩
    rw [this]

/-- BOTH PROGRAMS ADD UP THE SAME ROWS. -/
theorem kagg_eq (hD : Distinct P) (i : Fin 8192) (k : Fin 64) :
    kagg P i k = ∑ q : Fin 9, P (near P i q) k := by
  by_cases hi : i.val < 8191
  · exact kagg_row (finite hD) hD i hi k
  · exact kagg_last P i (by omega) k

end Cert.Neighbours

end
-- ==== Proof.Decode.lean ====
/-
  What the precondition says, entry by entry.
-/
module

public import proofs.«01_k».proof.Proof.Gen.Pre_distinct_neighbours
public import proofs.«01_k».proof.Proof.Neighbours
public import Idealize.ShloMosaic.Lib.ReduceAll

@[expose] public section

noncomputable section

namespace Cert.Decode

open Idealize.ShloMosaic Cert.Pre_distinct_neighbours Cert.HostRead Cert.RefKey Cert.Rank Cert.Neighbours

variable (x : S2x64x64x64.Idx → EReal)

/-- The values of the ten nearest, as the precondition ranks them. -/
def values : S8192x10.Idx → EReal :=
  (Host.topK S8192x10 1 (FloatOps.cmpfTotal (F := Ideal) (φ := .f32) .gt) (ReferenceIdeal.Read.val_main_v23 (F := Ideal) x)
    Facts.sliceFits_S8192x8192_S8192x10).1

/-- The ten values are the row's keys in the order of the rank. -/
theorem values_apply (i : Fin 8192) (q : Fin 10) :
    values x (ix2 i q) = key (pts x) i (rank (key (pts x) i) ⟨q.val, by omega⟩) := by
  refine (topK_values (ReferenceIdeal.Read.val_main_v23 (F := Ideal) x) _ (by omega) i q).trans ?_
  simp only [v23_apply]

/-- The precondition as two conjunctions. -/
theorem fn_eq (a1 a2 : S64x64.Idx → EReal) (a3 : S64.Idx → EReal) :
    fn (F := Ideal) x a1 a2 a3
      = andi
          (Host.reduce IntOp.andi (cmpf (F := Ideal) (φ := .f32) .ogt
            (extractStridedSlice S8191x8 ![0, 1] (values x) Facts.slices_S8192x10_S8191x8_0_1)
            (extractStridedSlice S8191x8 ![0, 2] (values x) Facts.slices_S8192x10_S8191x8_0_2))
            (constantI S_ 1 1#1) Facts.reducesTo_S8191x8_S_d0_1 Facts.h_S_)
          (Host.reduce IntOp.andi (cmpf (F := Ideal) (φ := .f32) .ogt
            (shapeCast S4095 (extractStridedSlice S4095x1 ![4096, 8] (values x) Facts.slices_S8192x10_S4095x1_4096_8) Facts.shapeCasts_S4095x1_S4095)
            (broadcastInDim S4095 ![] Facts.bcast_S_S4095 (constant (F := Ideal) S_ .f32 0xFF7FFFFF#32)))
            (constantI S_ 1 1#1) Facts.reducesTo_S4095_S_d0 Facts.h_S_) := by
  rfl

/-- An array with no axes has one entry. -/
instance : Subsingleton S_.Idx := ⟨fun _ _ => funext fun a => a.elim0⟩

/-- A conjunction of two bits is one only if both are. -/
theorem and_eq_one {a b : BitVec 1} (h : IntOp.andi a b = 1#1) : a = 1#1 ∧ b = 1#1 := by
  revert a b; decide

variable {a1 a2 : S64x64.Idx → EReal} {a3 : S64.Idx → EReal} (h : fn (F := Ideal) x a1 a2 a3 = fun _ => 1#1)

include h in
/-- The keys are strictly decreasing where it matters. -/
theorem distinct : Distinct (pts x) := fun i hi => by
  rw [fn_eq] at h
  have h0 := and_eq_one (congrFun h ix0)
  have h1 := Host.reduce_andi_all _ _ _ _ _ h0.1
  have h2 := Host.reduce_andi_all _ _ _ _ _ h0.2
  constructor
  · intro q
    have h3 := h1 (ix2 ⟨i.val, hi⟩ q)
    have h4 : extractStridedSlice S8191x8 ![0, 2] (values x) Facts.slices_S8192x10_S8191x8_0_2 (ix2 ⟨i.val, hi⟩ q)
        < extractStridedSlice S8191x8 ![0, 1] (values x) Facts.slices_S8192x10_S8191x8_0_1 (ix2 ⟨i.val, hi⟩ q) :=
      of_decide_eq_true ((WordCmp.ofBool_eq_one_iff _).mp h3)
    have e2 : extractStridedSlice S8191x8 ![0, 2] (values x) Facts.slices_S8192x10_S8191x8_0_2 (ix2 ⟨i.val, hi⟩ q)
        = values x (ix2 i ⟨q.val + 2, by omega⟩) := by
      pointwise
      exact congrArg (fun n : Fin 10 => values x (ix2 i n)) (Fin.ext (Nat.add_comm 2 q.val))
    have e1 : extractStridedSlice S8191x8 ![0, 1] (values x) Facts.slices_S8192x10_S8191x8_0_1 (ix2 ⟨i.val, hi⟩ q)
        = values x (ix2 i ⟨q.val + 1, by omega⟩) := by
      pointwise
      exact congrArg (fun n : Fin 10 => values x (ix2 i n)) (Fin.ext (Nat.add_comm 1 q.val))
    rw [e1, e2, values_apply, values_apply] at h4
    exact h4
  · intro h8
    have hlt : i.val - 4096 < 4095 := by omega
    have h3 := h2 (ix1 ⟨i.val - 4096, hlt⟩)
    have h4 : Ideal.ofBits .f32 0xFF7FFFFF#32
        < shapeCast S4095 (extractStridedSlice S4095x1 ![4096, 8] (values x) Facts.slices_S8192x10_S4095x1_4096_8) Facts.shapeCasts_S4095x1_S4095
          (ix1 ⟨i.val - 4096, hlt⟩) :=
      of_decide_eq_true ((WordCmp.ofBool_eq_one_iff _).mp h3)
    have e : shapeCast S4095 (extractStridedSlice S4095x1 ![4096, 8] (values x) Facts.slices_S8192x10_S4095x1_4096_8) Facts.shapeCasts_S4095x1_S4095
          (ix1 ⟨i.val - 4096, hlt⟩)
        = values x (ix2 i 8) := by
      pointwise
      exact congrArg (fun n : Fin 8192 => values x (ix2 n 8)) (Fin.ext (show 4096 + (i.val - 4096) = i.val by omega))
    rw [e, values_apply, Batch.ofBits_neg_fmax] at h4
    exact h4

end Cert.Decode

end
-- ==== Proof.Equation.lean ====
/-
  The value equation: under the precondition the kernel's output array is the reference's result.
-/
module

public import proofs.«01_k».proof.Proof.Decode

@[expose] public section

noncomputable section

namespace Cert.Equation

open Idealize.ShloMosaic Cert.HostRead

/-- THE TWO RESULTS of the same arguments are equal. -/
theorem result_eq (m : (ℓ : Loc KernelIdeal.nD KernelIdeal.τ KernelIdeal.sig) → Buf (Elt Ideal) ℓ) (c : Dev KernelIdeal.nD)
    (h : Pre_distinct_neighbours.fn (F := Ideal)
        (m ((c.tc : Thread KernelIdeal.nD KernelIdeal.τ).loc KernelIdeal.main_arg0))
        (m ((c.tc : Thread KernelIdeal.nD KernelIdeal.τ).loc KernelIdeal.main_arg1))
        (m ((c.tc : Thread KernelIdeal.nD KernelIdeal.τ).loc KernelIdeal.main_arg2))
        (m ((c.tc : Thread KernelIdeal.nD KernelIdeal.τ).loc KernelIdeal.main_arg3)) = fun _ => 1#1) :
    ((KernelIdeal.Gen.dats m 0 c).arrAt 7 KernelIdeal.cfg0.N : KernelIdeal.S8192x64.Idx → EReal)
      = ReferenceIdeal.Read.val_main_v45 (F := Ideal)
        (m ((c.tc : Thread KernelIdeal.nD KernelIdeal.τ).loc KernelIdeal.main_arg0))
        (m ((c.tc : Thread KernelIdeal.nD KernelIdeal.τ).loc KernelIdeal.main_arg1))
        (m ((c.tc : Thread KernelIdeal.nD KernelIdeal.τ).loc KernelIdeal.main_arg2))
        (m ((c.tc : Thread KernelIdeal.nD KernelIdeal.τ).loc KernelIdeal.main_arg3)) := by
  have hA := funext fun r => funext fun k => Neighbours.kagg_eq (Decode.distinct _ h) r k
  funext j
  have hj : j = ix2 (j 0) (j 1) := by
    funext d
    match d with
    | 0 => rfl
    | 1 => rfl
  rw [hj]
  refine (Output.output m c (j 0) (j 1)).trans ((congrArg (fun A => Output.outOf A _ _ _ _ (j 0) (j 1)) hA).trans ?_)
  exact (RefEdges.v45_apply _ _ _ _ (j 0) (j 1)).symm

end Cert.Equation

end
-- ==== Proof.lean ====
/-
  The certificate: the frames of the kernel and of the reference, and the equality of their results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Read
public import proofs.«01_k».proof.Proof.Gen.Pre_distinct_neighbours
public import proofs.«01_k».proof.Proof.Equation

@[expose] public section

noncomputable section

namespace Cert.Proof

open Idealize.ShloMosaic Idealize.SL.Sem

/-- The reference's run leaves its arguments unchanged; it declares no semaphore, so every counter is zero. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3))
        ∧ r.2.sem = fun _ => 0) :=
  (θ_run ReferenceIdeal.defs _ _).mono
    (fun r h => ⟨fun c => (h c).2, sem_eq_zero_of_no_sems (by decide) r.2⟩)
    (ReferenceIdeal.Value.run m g)

/-- Under the precondition kernel and reference, run on the same arguments, end with equal results. -/
theorem algebraic : algebraic_KernelIdeal_ReferenceIdeal_pre_distinct_neighbours := by
  intro m g m' g' hpre hargs
  refine ⟨fun c => (KernelIdeal.Gen.dats m 0 c).arrAt 7 KernelIdeal.cfg0.N, KernelIdeal.Value.run_blocks m g, ?_⟩
  refine (θ_run ReferenceIdeal.defs _ _).mono (fun r h c => ⟨(h c).1.trans ?_, (h c).2⟩) (ReferenceIdeal.Value.run m' g')
  obtain ⟨h0, h1, h2, h3⟩ := hargs c
  rw [ReferenceIdeal.Read.val_main_v45_eq, h0, h1, h2, h3]
  exact (Equation.result_eq m c (hpre c)).symm

/-- The certificate's claim. -/
theorem claim : Cert.Claim :=
  ⟨Cert.Kernel.Gen.facts, Cert.KernelIdeal.Gen.facts, Cert.ReferenceIdeal.Gen.facts, Cert.Pre_distinct_neighbours.Gen.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    trivial,
    algebraic⟩

end Cert.Proof

end
